-- ==== Defs.lean ====
def Pre_Kernel [hPre_rolled_1_Kernel : Cert.Pre_rolled_1_Kernel.Facts] (m : (ℓ : Loc Cert.Kernel.nD Cert.Kernel.τ Cert.Kernel.sig) → Buf (Elt Bits) ℓ) : Prop :=
  ∀ c : Dev Cert.Kernel.nD,
    (Cert.Pre_rolled_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_2_Kernel [hPre_rolled_2_Kernel : Cert.Pre_rolled_2_Kernel.Facts] (m : (ℓ : Loc Cert.Kernel.nD Cert.Kernel.τ Cert.Kernel.sig) → Buf (Elt Bits) ℓ) : Prop :=
  ∀ c : Dev Cert.Kernel.nD,
    (Cert.Pre_rolled_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_3_Kernel [hPre_rolled_3_Kernel : Cert.Pre_rolled_3_Kernel.Facts] (m : (ℓ : Loc Cert.Kernel.nD Cert.Kernel.τ Cert.Kernel.sig) → Buf (Elt Bits) ℓ) : Prop :=
  ∀ c : Dev Cert.Kernel.nD,
    (Cert.Pre_rolled_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_4_Kernel [hPre_rolled_4_Kernel : Cert.Pre_rolled_4_Kernel.Facts] (m : (ℓ : Loc Cert.Kernel.nD Cert.Kernel.τ Cert.Kernel.sig) → Buf (Elt Bits) ℓ) : Prop :=
  ∀ c : Dev Cert.Kernel.nD,
    (Cert.Pre_rolled_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_5_Kernel [hPre_rolled_5_Kernel : Cert.Pre_rolled_5_Kernel.Facts] (m : (ℓ : Loc Cert.Kernel.nD Cert.Kernel.τ Cert.Kernel.sig) → Buf (Elt Bits) ℓ) : Prop :=
  ∀ c : Dev Cert.Kernel.nD,
    (Cert.Pre_rolled_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_6_Kernel [hPre_rolled_6_Kernel : Cert.Pre_rolled_6_Kernel.Facts] (m : (ℓ : Loc Cert.Kernel.nD Cert.Kernel.τ Cert.Kernel.sig) → Buf (Elt Bits) ℓ) : Prop :=
  ∀ c : Dev Cert.Kernel.nD,
    (Cert.Pre_rolled_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_7_Kernel [hPre_rolled_7_Kernel : Cert.Pre_rolled_7_Kernel.Facts] (m : (ℓ : Loc Cert.Kernel.nD Cert.Kernel.τ Cert.Kernel.sig) → Buf (Elt Bits) ℓ) : Prop :=
  ∀ c : Dev Cert.Kernel.nD,
    (Cert.Pre_rolled_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_1_Kernel : Cert.Pre_rolled_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_2_Kernel [hPre_rolled_2_Kernel : Cert.Pre_rolled_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_3_Kernel [hPre_rolled_3_Kernel : Cert.Pre_rolled_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_4_Kernel [hPre_rolled_4_Kernel : Cert.Pre_rolled_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_5_Kernel [hPre_rolled_5_Kernel : Cert.Pre_rolled_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_6_Kernel [hPre_rolled_6_Kernel : Cert.Pre_rolled_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_7_Kernel [hPre_rolled_7_Kernel : Cert.Pre_rolled_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_1_ReferenceIdeal [hPre_rolled_1_ReferenceIdeal : Cert.Pre_rolled_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_2_ReferenceIdeal [hPre_rolled_2_ReferenceIdeal : Cert.Pre_rolled_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_3_ReferenceIdeal [hPre_rolled_3_ReferenceIdeal : Cert.Pre_rolled_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_4_ReferenceIdeal [hPre_rolled_4_ReferenceIdeal : Cert.Pre_rolled_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_5_ReferenceIdeal [hPre_rolled_5_ReferenceIdeal : Cert.Pre_rolled_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_6_ReferenceIdeal [hPre_rolled_6_ReferenceIdeal : Cert.Pre_rolled_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_7_ReferenceIdeal [hPre_rolled_7_ReferenceIdeal : Cert.Pre_rolled_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_1_Kernel : Cert.Pre_rolled_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_2_Kernel [hKernel : Cert.Kernel.Facts] [hPre_rolled_2_Kernel : Cert.Pre_rolled_2_Kernel.Facts] : Prop :=
  ∀ (m : (ℓ : Loc Cert.Kernel.nD Cert.Kernel.τ Cert.Kernel.sig) → Buf (Elt Bits) ℓ) (g : Dev Cert.Kernel.nD → PrngReg), Pre_Kernel_rolled_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_3_Kernel [hKernel : Cert.Kernel.Facts] [hPre_rolled_3_Kernel : Cert.Pre_rolled_3_Kernel.Facts] : Prop :=
  ∀ (m : (ℓ : Loc Cert.Kernel.nD Cert.Kernel.τ Cert.Kernel.sig) → Buf (Elt Bits) ℓ) (g : Dev Cert.Kernel.nD → PrngReg), Pre_Kernel_rolled_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_4_Kernel [hKernel : Cert.Kernel.Facts] [hPre_rolled_4_Kernel : Cert.Pre_rolled_4_Kernel.Facts] : Prop :=
  ∀ (m : (ℓ : Loc Cert.Kernel.nD Cert.Kernel.τ Cert.Kernel.sig) → Buf (Elt Bits) ℓ) (g : Dev Cert.Kernel.nD → PrngReg), Pre_Kernel_rolled_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_5_Kernel [hKernel : Cert.Kernel.Facts] [hPre_rolled_5_Kernel : Cert.Pre_rolled_5_Kernel.Facts] : Prop :=
  ∀ (m : (ℓ : Loc Cert.Kernel.nD Cert.Kernel.τ Cert.Kernel.sig) → Buf (Elt Bits) ℓ) (g : Dev Cert.Kernel.nD → PrngReg), Pre_Kernel_rolled_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_6_Kernel [hKernel : Cert.Kernel.Facts] [hPre_rolled_6_Kernel : Cert.Pre_rolled_6_Kernel.Facts] : Prop :=
  ∀ (m : (ℓ : Loc Cert.Kernel.nD Cert.Kernel.τ Cert.Kernel.sig) → Buf (Elt Bits) ℓ) (g : Dev Cert.Kernel.nD → PrngReg), Pre_Kernel_rolled_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_7_Kernel [hKernel : Cert.Kernel.Facts] [hPre_rolled_7_Kernel : Cert.Pre_rolled_7_Kernel.Facts] : Prop :=
  ∀ (m : (ℓ : Loc Cert.Kernel.nD Cert.Kernel.τ Cert.Kernel.sig) → Buf (Elt Bits) ℓ) (g : Dev Cert.Kernel.nD → PrngReg), Pre_Kernel_rolled_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_2_Kernel [hKernelIdeal : Cert.KernelIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_3_Kernel [hKernelIdeal : Cert.KernelIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_4_Kernel [hKernelIdeal : Cert.KernelIdeal.Facts] [hPre_rolled_4_Kernel : Cert.Pre_rolled_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_5_Kernel [hKernelIdeal : Cert.KernelIdeal.Facts] [hPre_rolled_5_Kernel : Cert.Pre_rolled_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_6_Kernel [hKernelIdeal : Cert.KernelIdeal.Facts] [hPre_rolled_6_Kernel : Cert.Pre_rolled_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_7_Kernel [hKernelIdeal : Cert.KernelIdeal.Facts] [hPre_rolled_7_Kernel : Cert.Pre_rolled_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_1_ReferenceIdeal [hReferenceIdeal : Cert.ReferenceIdeal.Facts] [hPre_rolled_1_ReferenceIdeal : Cert.Pre_rolled_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_2_ReferenceIdeal [hReferenceIdeal : Cert.ReferenceIdeal.Facts] [hPre_rolled_2_ReferenceIdeal : Cert.Pre_rolled_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_3_ReferenceIdeal [hReferenceIdeal : Cert.ReferenceIdeal.Facts] [hPre_rolled_3_ReferenceIdeal : Cert.Pre_rolled_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_4_ReferenceIdeal [hReferenceIdeal : Cert.ReferenceIdeal.Facts] [hPre_rolled_4_ReferenceIdeal : Cert.Pre_rolled_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_5_ReferenceIdeal [hReferenceIdeal : Cert.ReferenceIdeal.Facts] [hPre_rolled_5_ReferenceIdeal : Cert.Pre_rolled_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_6_ReferenceIdeal [hReferenceIdeal : Cert.ReferenceIdeal.Facts] [hPre_rolled_6_ReferenceIdeal : Cert.Pre_rolled_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_7_ReferenceIdeal [hReferenceIdeal : Cert.ReferenceIdeal.Facts] [hPre_rolled_7_ReferenceIdeal : Cert.Pre_rolled_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_2_Kernel [hKernelIdeal : Cert.KernelIdeal.Facts] [hReferenceIdeal : Cert.ReferenceIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_2_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_3_Kernel [hKernelIdeal : Cert.KernelIdeal.Facts] [hReferenceIdeal : Cert.ReferenceIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_3_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_4_Kernel [hKernelIdeal : Cert.KernelIdeal.Facts] [hReferenceIdeal : Cert.ReferenceIdeal.Facts] [hPre_rolled_4_Kernel : Cert.Pre_rolled_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_4_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_5_Kernel [hKernelIdeal : Cert.KernelIdeal.Facts] [hReferenceIdeal : Cert.ReferenceIdeal.Facts] [hPre_rolled_5_Kernel : Cert.Pre_rolled_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_5_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_6_Kernel [hKernelIdeal : Cert.KernelIdeal.Facts] [hReferenceIdeal : Cert.ReferenceIdeal.Facts] [hPre_rolled_6_Kernel : Cert.Pre_rolled_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_6_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_7_Kernel [hKernelIdeal : Cert.KernelIdeal.Facts] [hReferenceIdeal : Cert.ReferenceIdeal.Facts] [hPre_rolled_7_Kernel : Cert.Pre_rolled_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_7_Kernel m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_1_Kernel : Cert.Pre_rolled_1_Kernel.Facts) (hPre_rolled_2_Kernel : Cert.Pre_rolled_2_Kernel.Facts) (hPre_rolled_3_Kernel : Cert.Pre_rolled_3_Kernel.Facts) (hPre_rolled_4_Kernel : Cert.Pre_rolled_4_Kernel.Facts) (hPre_rolled_5_Kernel : Cert.Pre_rolled_5_Kernel.Facts) (hPre_rolled_6_Kernel : Cert.Pre_rolled_6_Kernel.Facts) (hPre_rolled_7_Kernel : Cert.Pre_rolled_7_Kernel.Facts) (hPre_rolled_1_ReferenceIdeal : Cert.Pre_rolled_1_ReferenceIdeal.Facts) (hPre_rolled_2_ReferenceIdeal : Cert.Pre_rolled_2_ReferenceIdeal.Facts) (hPre_rolled_3_ReferenceIdeal : Cert.Pre_rolled_3_ReferenceIdeal.Facts) (hPre_rolled_4_ReferenceIdeal : Cert.Pre_rolled_4_ReferenceIdeal.Facts) (hPre_rolled_5_ReferenceIdeal : Cert.Pre_rolled_5_ReferenceIdeal.Facts) (hPre_rolled_6_ReferenceIdeal : Cert.Pre_rolled_6_ReferenceIdeal.Facts) (hPre_rolled_7_ReferenceIdeal : Cert.Pre_rolled_7_ReferenceIdeal.Facts),
    quiescent_Kernel (hKernel := hKernel) (hPre_rolled_1_Kernel := hPre_rolled_1_Kernel)
    ∧ quiescent_Kernel_pre_rolled_2_Kernel (hKernel := hKernel) (hPre_rolled_2_Kernel := hPre_rolled_2_Kernel)
    ∧ quiescent_Kernel_pre_rolled_3_Kernel (hKernel := hKernel) (hPre_rolled_3_Kernel := hPre_rolled_3_Kernel)
    ∧ quiescent_Kernel_pre_rolled_4_Kernel (hKernel := hKernel) (hPre_rolled_4_Kernel := hPre_rolled_4_Kernel)
    ∧ quiescent_Kernel_pre_rolled_5_Kernel (hKernel := hKernel) (hPre_rolled_5_Kernel := hPre_rolled_5_Kernel)
    ∧ quiescent_Kernel_pre_rolled_6_Kernel (hKernel := hKernel) (hPre_rolled_6_Kernel := hPre_rolled_6_Kernel)
    ∧ quiescent_Kernel_pre_rolled_7_Kernel (hKernel := hKernel) (hPre_rolled_7_Kernel := hPre_rolled_7_Kernel)
    ∧ quiescent_KernelIdeal (hKernelIdeal := hKernelIdeal) (hPre_rolled_1_Kernel := hPre_rolled_1_Kernel)
    ∧ quiescent_KernelIdeal_pre_rolled_2_Kernel (hKernelIdeal := hKernelIdeal) (hPre_rolled_2_Kernel := hPre_rolled_2_Kernel)
    ∧ quiescent_KernelIdeal_pre_rolled_3_Kernel (hKernelIdeal := hKernelIdeal) (hPre_rolled_3_Kernel := hPre_rolled_3_Kernel)
    ∧ quiescent_KernelIdeal_pre_rolled_4_Kernel (hKernelIdeal := hKernelIdeal) (hPre_rolled_4_Kernel := hPre_rolled_4_Kernel)
    ∧ quiescent_KernelIdeal_pre_rolled_5_Kernel (hKernelIdeal := hKernelIdeal) (hPre_rolled_5_Kernel := hPre_rolled_5_Kernel)
    ∧ quiescent_KernelIdeal_pre_rolled_6_Kernel (hKernelIdeal := hKernelIdeal) (hPre_rolled_6_Kernel := hPre_rolled_6_Kernel)
    ∧ quiescent_KernelIdeal_pre_rolled_7_Kernel (hKernelIdeal := hKernelIdeal) (hPre_rolled_7_Kernel := hPre_rolled_7_Kernel)
    ∧ quiescent_ReferenceIdeal (hReferenceIdeal := hReferenceIdeal)
    ∧ quiescent_ReferenceIdeal_pre_rolled_1_ReferenceIdeal (hReferenceIdeal := hReferenceIdeal) (hPre_rolled_1_ReferenceIdeal := hPre_rolled_1_ReferenceIdeal)
    ∧ quiescent_ReferenceIdeal_pre_rolled_2_ReferenceIdeal (hReferenceIdeal := hReferenceIdeal) (hPre_rolled_2_ReferenceIdeal := hPre_rolled_2_ReferenceIdeal)
    ∧ quiescent_ReferenceIdeal_pre_rolled_3_ReferenceIdeal (hReferenceIdeal := hReferenceIdeal) (hPre_rolled_3_ReferenceIdeal := hPre_rolled_3_ReferenceIdeal)
    ∧ quiescent_ReferenceIdeal_pre_rolled_4_ReferenceIdeal (hReferenceIdeal := hReferenceIdeal) (hPre_rolled_4_ReferenceIdeal := hPre_rolled_4_ReferenceIdeal)
    ∧ quiescent_ReferenceIdeal_pre_rolled_5_ReferenceIdeal (hReferenceIdeal := hReferenceIdeal) (hPre_rolled_5_ReferenceIdeal := hPre_rolled_5_ReferenceIdeal)
    ∧ quiescent_ReferenceIdeal_pre_rolled_6_ReferenceIdeal (hReferenceIdeal := hReferenceIdeal) (hPre_rolled_6_ReferenceIdeal := hPre_rolled_6_ReferenceIdeal)
    ∧ quiescent_ReferenceIdeal_pre_rolled_7_ReferenceIdeal (hReferenceIdeal := hReferenceIdeal) (hPre_rolled_7_ReferenceIdeal := hPre_rolled_7_ReferenceIdeal)
    ∧ preserves_Kernel_KernelIdeal
    ∧ algebraic_KernelIdeal_ReferenceIdeal (hKernelIdeal := hKernelIdeal) (hReferenceIdeal := hReferenceIdeal) (hPre_rolled_1_Kernel := hPre_rolled_1_Kernel)
    ∧ algebraic_KernelIdeal_ReferenceIdeal_pre_rolled_2_Kernel (hKernelIdeal := hKernelIdeal) (hReferenceIdeal := hReferenceIdeal) (hPre_rolled_2_Kernel := hPre_rolled_2_Kernel)
    ∧ algebraic_KernelIdeal_ReferenceIdeal_pre_rolled_3_Kernel (hKernelIdeal := hKernelIdeal) (hReferenceIdeal := hReferenceIdeal) (hPre_rolled_3_Kernel := hPre_rolled_3_Kernel)
    ∧ algebraic_KernelIdeal_ReferenceIdeal_pre_rolled_4_Kernel (hKernelIdeal := hKernelIdeal) (hReferenceIdeal := hReferenceIdeal) (hPre_rolled_4_Kernel := hPre_rolled_4_Kernel)
    ∧ algebraic_KernelIdeal_ReferenceIdeal_pre_rolled_5_Kernel (hKernelIdeal := hKernelIdeal) (hReferenceIdeal := hReferenceIdeal) (hPre_rolled_5_Kernel := hPre_rolled_5_Kernel)
    ∧ algebraic_KernelIdeal_ReferenceIdeal_pre_rolled_6_Kernel (hKernelIdeal := hKernelIdeal) (hReferenceIdeal := hReferenceIdeal) (hPre_rolled_6_Kernel := hPre_rolled_6_Kernel)
    ∧ algebraic_KernelIdeal_ReferenceIdeal_pre_rolled_7_Kernel (hKernelIdeal := hKernelIdeal) (hReferenceIdeal := hReferenceIdeal) (hPre_rolled_7_Kernel := hPre_rolled_7_Kernel)
-- ==== Pre_rolled_1_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_1_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_2_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_2_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_3_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_3_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_4_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_4_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_5_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_5_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_6_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_6_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_7_Kernel.lean ====
abbrev S1x4096x2048 : Shape := ⟨3, ![1, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S1x4096x2048 .bf16) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Pre_rolled_7_ReferenceIdeal.lean ====
abbrev S8x4096x2048 : Shape := ⟨3, ![8, 4096, 2048]⟩
abbrev S8 : Shape := ⟨1, ![8]⟩
abbrev S_ : Shape := ⟨0, ![]⟩

class Facts : Prop where
  bcast_S_S8 : S_.BroadcastsInDim S8 (![] : Fin 0 → Fin S8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8 32) (arg1 : IVec S_ 32) : IVec S8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8 32 := broadcastInDim S8 ![] bcast_S_S8 v2
  let v4 : IVec S8 32 := Host.remsi arg0 v3
  let c_1 : IVec S_ 32 := constantI S_ 32 0#32
  let v5 : IVec S8 32 := broadcastInDim S8 ![] bcast_S_S8 c_1
  let v6 : IVec S8 1 := cmpi .ne v4 v5
  let c_2 : IVec S_ 32 := constantI S_ 32 0#32
  let v7 : IVec S8 32 := broadcastInDim S8 ![] bcast_S_S8 c_2
  let v8 : IVec S8 1 := cmpi .slt v4 v7
  let c_3 : IVec S_ 32 := constantI S_ 32 0#32
  let v9 : IVec S_ 1 := cmpi .slt v2 c_3
  let v10 : IVec S8 1 := broadcastInDim S8 ![] bcast_S_S8 v9
  let v11 : IVec S8 1 := cmpi .ne v8 v10
  let v12 : IVec S8 1 := andi v11 v6
  let v13 : IVec S8 32 := broadcastInDim S8 ![] bcast_S_S8 v2
  let v14 : IVec S8 32 := addi v4 v13
  let v15 : IVec S8 32 := select v12 v14 v4
  v15

def fn {F : FTy → Type} [FloatOps F] (main_arg0 : FVec F S8x4096x2048 .bf16) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := fn_remainder (F := F) main_v2 main_c_0
  let main_v4 : IVec S8 1 := cmpi .eq main_arg1 main_v3
  main_v4
-- ==== Kernel.lean ====
abbrev S1x4096x2048 : Shape := ⟨3, ![1, 4096, 2048]⟩
abbrev S8 : Shape := ⟨1, ![8]⟩
abbrev S8x512x2048 : Shape := ⟨3, ![8, 512, 2048]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 3
  | .vmem => 2
  | .smem => 1
  | _ => 0

abbrev bufTy : (tb : Table) → Fin (tcTables nBuf tb) → BufTy
  | .hbm, ⟨0, _⟩ => ⟨S1x4096x2048, .bf16⟩
  | .hbm, ⟨1, _⟩ => ⟨S8, .i32⟩
  | .hbm, ⟨2, _⟩ => ⟨S1x4096x2048, .bf16⟩
  | .local _ .vmem, ⟨0, _⟩ => ⟨S1x4096x2048, .bf16⟩
  | .local _ .vmem, ⟨1, _⟩ => ⟨S8x512x2048, .bf16⟩
  | .local _ .smem, ⟨0, _⟩ => ⟨S8, .i32⟩
  | _, _ => ⟨S1x4096x2048, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
@[reducible] def k0_t1_loop : Scf.Loop 32 :=
  let c0_i32_0 : BitVec 32 := 0#32
  let c8_i32_1 : BitVec 32 := 8#32
  let v5 : BitVec 32 := Scalar.addi c0_i32_0 c8_i32_1
  let c1_i32_2 : BitVec 32 := 1#32
  ⟨c0_i32_0, v5, c1_i32_2⟩
def k0_off2 (k0_t1 : Fin k0_t1_loop.trips) : Fin 1 → Nat :=
  let c0_i32_0 : BitVec 32 := 0#32
  let c1_i32_2 : BitVec 32 := 1#32
  let arg6 : BitVec 32 := Scf.iv c0_i32_0 c1_i32_2 k0_t1
  let v242 : Index := Scalar.indexCast arg6
  ![v242.toNat]
def k0_dev1 (v6 : BitVec 32) : Nat :=
  let c0_i32_6 : BitVec 32 := 0#32
  let c1_i32_5 : BitVec 32 := 1#32
  let v8 : BitVec 32 := Scalar.muli v6 c1_i32_5
  let v9 : BitVec 32 := Scalar.addi c0_i32_6 v8
  v9.toNat

def k0_chk1 (v6 : BitVec 32) : Prop :=
  ((k0_dev1 v6) < nD)
theorem k0_dev1_lt : ∀ (v6 : BitVec 32) (k0_hw1 : k0_chk1 v6), (k0_dev1 v6) < nD := fun v6 k0_hw1 => k0_hw1

def k0_dev2 (v4 : BitVec 32) : Nat :=
  let c0_i32_18 : BitVec 32 := 0#32
  let c1_i32_17 : BitVec 32 := 1#32
  let v15 : BitVec 32 := Scalar.muli v4 c1_i32_17
  let v16 : BitVec 32 := Scalar.addi c0_i32_18 v15
  v16.toNat

def k0_dev3 (v4 : BitVec 32) : Nat :=
  let c0_i32_32 : BitVec 32 := 0#32
  let c1_i32_31 : BitVec 32 := 1#32
  let v30 : BitVec 32 := Scalar.muli v4 c1_i32_31
  let v31 : BitVec 32 := Scalar.addi c0_i32_32 v30
  v31.toNat
def k0_dev4 (v4 : BitVec 32) : Nat :=
  let c0_i32_44 : BitVec 32 := 0#32
  let c1_i32_43 : BitVec 32 := 1#32
  let v45 : BitVec 32 := Scalar.muli v4 c1_i32_43
  let v46 : BitVec 32 := Scalar.addi c0_i32_44 v45
  v46.toNat
def k0_dev5 (v4 : BitVec 32) : Nat :=
  let c0_i32_56 : BitVec 32 := 0#32
  let c1_i32_55 : BitVec 32 := 1#32
  let v60 : BitVec 32 := Scalar.muli v4 c1_i32_55
  let v61 : BitVec 32 := Scalar.addi c0_i32_56 v60
  v61.toNat
def k0_dev6 (v4 : BitVec 32) : Nat :=
  let c0_i32_68 : BitVec 32 := 0#32
  let c1_i32_67 : BitVec 32 := 1#32
  let v75 : BitVec 32 := Scalar.muli v4 c1_i32_67
  let v76 : BitVec 32 := Scalar.addi c0_i32_68 v75
  v76.toNat
def k0_dev7 (v4 : BitVec 32) : Nat :=
  let c0_i32_80 : BitVec 32 := 0#32
  let c1_i32_79 : BitVec 32 := 1#32
  let v90 : BitVec 32 := Scalar.muli v4 c1_i32_79
  let v91 : BitVec 32 := Scalar.addi c0_i32_80 v90
  v91.toNat
def k0_dev8 (v4 : BitVec 32) : Nat :=
  let c0_i32_92 : BitVec 32 := 0#32
  let c1_i32_91 : BitVec 32 := 1#32
  let v105 : BitVec 32 := Scalar.muli v4 c1_i32_91
  let v106 : BitVec 32 := Scalar.addi c0_i32_92 v105
  v106.toNat
def k0_dev9 (v4 : BitVec 32) : Nat :=
  let c0_i32_104 : BitVec 32 := 0#32
  let c1_i32_103 : BitVec 32 := 1#32
  let v120 : BitVec 32 := Scalar.muli v4 c1_i32_103
  let v121 : BitVec 32 := Scalar.addi c0_i32_104 v120
  v121.toNat

def k0_chk2 (v4 : BitVec 32) : Prop :=
  ((k0_dev2 v4) < nD) ∧
  ((k0_dev3 v4) < nD) ∧
  ((k0_dev4 v4) < nD) ∧
  ((k0_dev5 v4) < nD) ∧
  ((k0_dev6 v4) < nD) ∧
  ((k0_dev7 v4) < nD) ∧
  ((k0_dev8 v4) < nD) ∧
  ((k0_dev9 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2.1
theorem k0_dev5_lt : ∀ (v4 : BitVec 32) (k0_hw2 : k0_chk2 v4), (k0_dev5 v4) < nD := fun v4 k0_hw2 => k0_hw2.2.2.2.1
theorem k0_dev6_lt : ∀ (v4 : BitVec 32) (k0_hw2 : k0_chk2 v4), (k0_dev6 v4) < nD := fun v4 k0_hw2 => k0_hw2.2.2.2.2.1
theorem k0_dev7_lt : ∀ (v4 : BitVec 32) (k0_hw2 : k0_chk2 v4), (k0_dev7 v4) < nD := fun v4 k0_hw2 => k0_hw2.2.2.2.2.2.1
theorem k0_dev8_lt : ∀ (v4 : BitVec 32) (k0_hw2 : k0_chk2 v4), (k0_dev8 v4) < nD := fun v4 k0_hw2 => k0_hw2.2.2.2.2.2.2.1
theorem k0_dev9_lt : ∀ (v4 : BitVec 32) (k0_hw2 : k0_chk2 v4), (k0_dev9 v4) < nD := fun v4 k0_hw2 => k0_hw2.2.2.2.2.2.2.2

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x4096x2048 : Shape := ⟨3, ![8, 4096, 2048]⟩
abbrev S8 : Shape := ⟨1, ![8]⟩
abbrev S_ : Shape := ⟨0, ![]⟩
abbrev S8x1 : Shape := ⟨2, ![8, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x4096x2048, .bf16⟩
  | .hbm, ⟨14, _⟩ => ⟨S8x4096x2048, .f32⟩
  | .hbm, ⟨15, _⟩ => ⟨S8x4096x2048, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Places.lean ====
/-
  Where the exchange keeps its data. A device's block of `x` is staged whole; row chunk `j` (rows `512 j` to
  `512 j + 511`) is copied into slot `j` of the send buffer, and the transfer of slot `j` lands in row chunk `j` of the
  peer's result. This module names the eight slots and the eight chunks as views (`slotV`, `chunkV`), shows that each
  family cuts its buffer into disjoint pieces that cover it, and computes the two copies: the store leaves slot `j` at
  the chunk of the block (`slot_filled`), and the landing leaves chunk `j` of the result at the chunk of the sender's
  block (`chunk_landed`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Shift

open Cert.KernelIdeal Cert.KernelIdeal.Gen
open Idealize.ShloMosaic Idealize.ShloMosaic.TcCoe
open Idealize.SL Idealize.SL.Sem

variable {F : FTy → Type} [FloatOps F]

/-! ## The offsets -/

/-- Where chunk `j` of the result (and of the staged block) starts. -/
abbrev chunkOff (j : Fin 8) : Fin 3 → Nat := ![0, 512 * j.val, 0]
/-- Where slot `j` of the send buffer starts. -/
abbrev slotOff (j : Fin 8) : Fin 3 → Nat := ![j.val, 0, 0]

theorem chunk_inb (j : Fin 8) : ∀ a, chunkOff j a + S1x512x2048.size a ≤ S1x4096x2048.size a := by
  have := j.isLt
  intro a; fin_cases a
  · show 0 + 1 ≤ 1; omega
  · show 512 * j.val + 512 ≤ 4096; omega
  · show 0 + 2048 ≤ 2048; omega
theorem slot_inb (j : Fin 8) : ∀ a, slotOff j a + S1x512x2048.size a ≤ S8x512x2048.size a := by
  have := j.isLt
  intro a; fin_cases a
  · show j.val + 1 ≤ 8; omega
  · show 0 + 512 ≤ 512; omega
  · show 0 + 2048 ≤ 2048; omega

/-- The rectangle of chunk `j`, in a buffer of the block's shape. -/
abbrev chunkR (j : Fin 8) : Rect S1x4096x2048 := Rect.unit (s := S1x4096x2048) (chunkOff j) S1x512x2048.size (chunk_inb j)
/-- The rectangle of slot `j`, in the send buffer. -/
abbrev slotR (j : Fin 8) : Rect S8x512x2048 := Rect.unit (s := S8x512x2048) (slotOff j) S1x512x2048.size (slot_inb j)

/-! ## The memrefs -/

/-- The table of destinations as staged, the block of `x` as staged, the result, the send buffer. -/
abbrev piM : Memref sig .tc .smem S8 .i32 := Memref.whole cc0_stg0_0
abbrev xM : Memref sig .tc .vmem S1x4096x2048 .bf16 := Memref.whole cc0_stg1_0
abbrev oM : Memref sig .tc .hbm S1x4096x2048 .bf16 := Memref.whole main_v1
abbrev bM : Memref sig .tc .vmem S8x512x2048 .bf16 := Memref.whole cc0_scratch0

/-- Chunk `j` of the result, as the transfers name it. -/
abbrev chunkV (j : Fin 8) : Memref sig .tc .hbm S512x2048 .bf16 :=
  (oM.slice (chunkR j) (fun _ => rfl)).squeeze S512x2048 squeezes_S1x512x2048_S512x2048
/-- Slot `j` of the send buffer, as the transfers name it. -/
abbrev slotV (j : Fin 8) : Memref sig .tc .vmem S512x2048 .bf16 :=
  (bM.slice (slotR j) (fun _ => rfl)).squeeze S512x2048 squeezes_S1x512x2048_S512x2048

/-! ## Their elements -/

/-- The elements of chunk `j` of the result. -/
abbrev chunkI (j : Fin 8) : Finset S1x4096x2048.Idx := (chunkV j).view.set
/-- The elements of slot `j` of the send buffer. -/
abbrev slotI (j : Fin 8) : Finset S8x512x2048.Idx := (slotV j).view.set

theorem chunkI_eq (j : Fin 8) : chunkI j = (chunkR j).set := by
  unfold chunkI
  rw [Memref.set_view_squeeze]
  show (View.slice (View.whole main_v1) (chunkR j)).set = _
  rw [View.set_slice]
  exact Finset.map_refl
theorem slotI_eq (j : Fin 8) : slotI j = (slotR j).set := by
  unfold slotI
  rw [Memref.set_view_squeeze]
  show (View.slice (View.whole cc0_scratch0) (slotR j)).set = _
  rw [View.set_slice]
  exact Finset.map_refl

theorem mem_chunkI {j : Fin 8} {i : S1x4096x2048.Idx} : i ∈ chunkI j ↔ 512 * j.val ≤ (i 1).val ∧ (i 1).val < 512 * j.val + 512 := by
  rw [chunkI_eq]
  refine Rect.mem_set_unit.trans ⟨fun h => h 1, fun h a => ?_⟩
  fin_cases a
  · exact ⟨Nat.zero_le _, by show (i 0).val < 0 + 1; have : (i 0).val < 1 := (i 0).isLt; omega⟩
  · exact h
  · exact ⟨Nat.zero_le _, by show (i 2).val < 0 + 2048; have : (i 2).val < 2048 := (i 2).isLt; omega⟩
theorem mem_slotI {j : Fin 8} {i : S8x512x2048.Idx} : i ∈ slotI j ↔ (i 0).val = j.val := by
  rw [slotI_eq]
  refine Rect.mem_set_unit.trans ⟨fun h => ?_, fun h a => ?_⟩
  · have h0 : j.val ≤ (i 0).val ∧ (i 0).val < j.val + 1 := h 0
    omega
  · fin_cases a
    · exact ⟨Nat.le_of_eq h.symm, by show (i 0).val < j.val + 1; omega⟩
    · exact ⟨Nat.zero_le _, by show (i 1).val < 0 + 512; have : (i 1).val < 512 := (i 1).isLt; omega⟩
    · exact ⟨Nat.zero_le _, by show (i 2).val < 0 + 2048; have : (i 2).val < 2048 := (i 2).isLt; omega⟩

theorem chunkI_disjoint : ∀ j j' : Fin 8, j ≠ j' → Disjoint (chunkI j) (chunkI j') := by
  intro j j' h
  refine Finset.disjoint_left.mpr fun i hi hi' => h (Fin.ext ?_)
  have h1 := mem_chunkI.mp hi; have h2 := mem_chunkI.mp hi'
  omega
theorem slotI_disjoint : ∀ j j' : Fin 8, j ≠ j' → Disjoint (slotI j) (slotI j') := by
  intro j j' h
  refine Finset.disjoint_left.mpr fun i hi hi' => h (Fin.ext ?_)
  exact (mem_slotI.mp hi).symm.trans (mem_slotI.mp hi')

theorem chunkI_cover : Finset.univ.biUnion chunkI = Finset.univ := by
  refine Finset.eq_univ_iff_forall.mpr fun i => Finset.mem_biUnion.mpr ?_
  have hi : (i 1).val < 4096 := (i 1).isLt
  exact ⟨⟨(i 1).val / 512, by omega⟩, Finset.mem_univ _, mem_chunkI.mpr (by constructor <;> simp only <;> omega)⟩
theorem slotI_cover : Finset.univ.biUnion slotI = Finset.univ :=
  Finset.eq_univ_iff_forall.mpr fun i => Finset.mem_biUnion.mpr ⟨⟨(i 0).val, (i 0).isLt⟩, Finset.mem_univ _, mem_slotI.mpr rfl⟩

/-! ## The send buffer's contents -/

/-- Where element `i` of the send buffer comes from in the block: slot `i 0` holds chunk `i 0`. -/
def rowOf (i : S8x512x2048.Idx) : S1x4096x2048.Idx := fun a => match a with
  | ⟨0, _⟩ => ⟨0, by show 0 < 1; omega⟩
  | ⟨1, _⟩ => ⟨512 * (i 0).val + (i 1).val, by
      show _ < 4096
      have h0 : (i 0).val < 8 := (i 0).isLt
      have h1 : (i 1).val < 512 := (i 1).isLt
      omega⟩
  | ⟨2, _⟩ => ⟨(i 2).val, (i 2).isLt⟩

/-- The send buffer once every chunk of the block `x` is stored in its slot. -/
def packed (x : S1x4096x2048.Idx → Elt F .bf16) : S8x512x2048.Idx → Elt F .bf16 := fun i => x (rowOf i)

/-- Element `y` of slot `j` comes from element `y` of chunk `j`. -/
theorem rowOf_slot (j : Fin 8) (y : S1x512x2048.Idx) : rowOf ((slotR j).emb y) = (chunkR j).emb y := by
  have h0 : (y 0).val < 1 := (y 0).isLt
  funext a
  refine Fin.ext ?_
  fin_cases a
  · show 0 = 0 + 1 * (y 0).val; omega
  · show 512 * (j.val + 1 * (y 0).val) + (0 + 1 * (y 1).val) = 512 * j.val + 1 * (y 1).val; omega
  · show 0 + 1 * (y 2).val = 0 + 1 * (y 2).val; rfl

/-- A stored chunk: the two shape casts between the load and the store leave the values alone. -/
theorem pay_eq (v : Vec F S1x512x2048 .bf16) : k0_pay1 v = v := shapeCast_shapeCast v _ _

omit [FloatOps F] in
/-- Loading chunk `j` of the staged block and storing it in slot `j`: on the slot's elements the send buffer now agrees
    with `packed x`. -/
theorem slot_filled (j : Fin 8) (f : S8x512x2048.Idx → Elt F .bf16) (x : S1x4096x2048.Idx → Elt F .bf16) :
    ∀ i ∈ slotI j, (bM.access (slotR j)).write (Elt F) f ((xM.access (chunkR j)).read (Elt F) x) Finset.univ i = packed x i := by
  intro i hi
  obtain ⟨z, -, rfl⟩ := Finset.mem_map.mp hi
  let y : S1x512x2048.Idx := Shape.reshapeEquiv squeezes_S1x512x2048_S512x2048.numel_eq z
  show (bM.access (slotR j)).write (Elt F) f _ Finset.univ ((bM.access (slotR j)).emb y) = _
  refine (View.write_emb_of_mem (v := bM.access (slotR j)) (Val := Elt F) f _ (Finset.mem_univ y)).trans ?_
  show x ((chunkR j).emb y) = x (rowOf ((slotR j).emb y))
  rw [rowOf_slot]

omit [FloatOps F] in
/-- The transfer of slot `j` into chunk `j` of the peer's result: on the chunk's elements the result now agrees with the
    sender's block. -/
theorem chunk_landed (j : Fin 8) (f x : S1x4096x2048.Idx → Elt F .bf16) :
    ∀ i ∈ chunkI j, (chunkV j).view.write (Elt F) f ((slotV j).view.read (Elt F) (packed x)) Finset.univ i = x i := by
  intro i hi
  obtain ⟨y, -, rfl⟩ := Finset.mem_map.mp hi
  refine (View.write_emb_of_mem (v := (chunkV j).view) (Val := Elt F) f _ (Finset.mem_univ y)).trans ?_
  show x (rowOf ((slotR j).emb _)) = x ((chunkR j).emb _)
  rw [rowOf_slot]

end Cert.Shift

end
-- ==== Proof.Protocol.lean ====
/-
  The exchange's protocol. The eight devices carry one permutation `σ`, the table they all hold: device `c` sends its
  block to device `σ c` and receives the block of device `σ⁻¹ c`. Every semaphore the kernel uses is a CELL with one
  round:

    * the BARRIER cell of device `c` receives one unit, from device `σ c`; with it comes the result buffer of device
      `σ c`, which the eight transfers of `c` may then write;
    * the SEND cell `j` of device `c` receives the transfer's size when transfer `j` of `c` has read slot `j` of the send
      buffer of `c`: the slot comes back;
    * the RECEIVE cell `j` of device `c` receives the transfer's size when transfer `j` of device `σ⁻¹ c` has landed: row
      chunk `j` of the result buffer of `c` comes back, holding chunk `j` of the block of device `σ⁻¹ c`.

  The module states this schedule (`Rd`), what a device owes its peers (`owedFrom`, `O₀`), the order of the waits
  (`lv`: staging, then the barrier, then the receive cells), and what a device holds before and after its body.
-/
module

public import proofs.«01_k».proof.Proof.Places

@[expose] public section

noncomputable section

namespace Cert.Shift

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's rounds and the exchange's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (σ : Dev nD ≃ Dev nD)
variable (m : (ℓ : Loc nD τ sig) → Buf (Elt F) ℓ)

/-! ## The transfers from `k` on, and those before `k` -/

/-- The numbers `k, …, 7`; -/
def geS (k : ℕ) : Finset (Fin 8) := Finset.univ.filter fun j => k ≤ j.val
/-- the numbers `0, …, k - 1`. -/
def ltS (k : ℕ) : Finset (Fin 8) := Finset.univ.filter fun j => j.val < k

theorem geS_zero : geS 0 = Finset.univ := Finset.filter_true_of_mem fun _ _ => Nat.zero_le _
theorem geS_eight : geS 8 = ∅ := Finset.filter_false_of_mem fun j _ => by have := j.isLt; omega
theorem ltS_zero : ltS 0 = ∅ := Finset.filter_false_of_mem fun j _ => by omega
theorem ltS_eight : ltS 8 = Finset.univ := Finset.filter_true_of_mem fun j _ => j.isLt
theorem geS_split (j : Fin 8) : geS j.val = insert j (geS (j.val + 1)) := by
  ext i; simp only [geS, Finset.mem_filter, Finset.mem_univ, true_and, Finset.mem_insert, Fin.ext_iff]; omega
theorem ltS_split (j : Fin 8) : ltS (j.val + 1) = insert j (ltS j.val) := by
  ext i; simp only [ltS, Finset.mem_filter, Finset.mem_univ, true_and, Finset.mem_insert, Fin.ext_iff]; omega
theorem geS_notMem (j : Fin 8) : j ∉ geS (j.val + 1) := by
  simp only [geS, Finset.mem_filter, Finset.mem_univ, true_and]; omega
theorem ltS_notMem (j : Fin 8) : j ∉ ltS j.val := by
  simp only [ltS, Finset.mem_filter, Finset.mem_univ, true_and]; omega

omit [FloatOps F] in
/-- Taking item `j` out of the items from `j` on. -/
theorem bigSep_ge (j : Fin 8) (Φ : Fin 8 → sProp 𝕄) : bigSep (geS j.val) Φ = iprop(Φ j ∗ bigSep (geS (j.val + 1)) Φ) := by
  rw [geS_split]; exact BI.bigSep_insert (geS_notMem j)
omit [FloatOps F] in
/-- Adding item `j` to the items before `j`. -/
theorem bigSep_lt (j : Fin 8) (Φ : Fin 8 → sProp 𝕄) : bigSep (ltS (j.val + 1)) Φ = iprop(Φ j ∗ bigSep (ltS j.val) Φ) := by
  rw [ltS_split]; exact BI.bigSep_insert (ltS_notMem j)

/-! ## The cells -/

/-- The barrier semaphore, and the send and receive semaphores of transfer `j`. -/
abbrev barS : Sem sig := (SemArray.scalar (sig.barrier 0 rfl) : Sems sig S_).sem
abbrev sendS (j : Fin 8) : DmaSem sig := ⟨2 + j.val, by have := j.isLt; show 2 + j.val < 18; omega⟩
abbrev recvS (j : Fin 8) : DmaSem sig := ⟨10 + j.val, by have := j.isLt; show 10 + j.val < 18; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

/-- The kernel's own semaphores, send then receive; -/
abbrev osem : Fin 8 ⊕ Fin 8 → SemLoc sig := fun k => match k with
  | .inl j => .dma (sendS j)
  | .inr j => .dma (recvS j)
/-- with the barrier, all seventeen of a device, -/
abbrev CIx : Type := Unit ⊕ (Fin 8 ⊕ Fin 8)
abbrev csem : CIx → SemLoc sig := fun k => match k with
  | .inl _ => .reg barS
  | .inr k => osem k
/-- and of every device. -/
abbrev kcell (ck : Dev nD × CIx) : GSem nD τ sig := ((ck.1 : Thread nD τ), csem ck.2)

abbrev barX : CIx := .inl ()
abbrev sendX (j : Fin 8) : CIx := .inr (.inl j)
abbrev recvX (j : Fin 8) : CIx := .inr (.inr j)

/-- What one transfer adds to its two semaphores. -/
def N : ℕ := (chunkV 0).view.dmaCredit
theorem N_pos : 0 < N := View.dmaCredit_pos _ (by decide)

/-! ## Contents -/

/-- Device `c`'s block of `x`, and its table, at launch. -/
abbrev xOf (c : Dev nD) : S1x4096x2048.Idx → Elt F .bf16 := m ((c : Thread nD τ).loc main_arg0)
abbrev tblOf (c : Dev nD) : S8.Idx → Elt F .i32 := m ((c : Thread nD τ).loc main_arg1)
/-- Device `c`'s result buffer at launch; -/
abbrev outOf (c : Dev nD) : S1x4096x2048.Idx → Elt F .bf16 := m ((c : Thread nD τ).loc main_v1)
/-- and what it holds at the end: the block of the device whose destination is `c`. -/
abbrev resOf (c : Dev nD) : S1x4096x2048.Idx → Elt F .bf16 := xOf m (σ.symm c)

/-- Slot `j` of device `c`'s send buffer at contents `f`; the whole buffer; -/
def slotPts (c : Dev nD) (j : Fin 8) (f : S8x512x2048.Idx → Elt F .bf16) : sProp 𝕄 :=
  (slotV j).view.loc (c : Thread nD τ) ↦[(slotV j).view.set]{fullShare} f
def bufPts (c : Dev nD) (f : S8x512x2048.Idx → Elt F .bf16) : sProp 𝕄 :=
  ((c : Thread nD τ).loc cc0_scratch0) ↦{fullShare} f
/-- chunk `j` of device `c`'s result at contents `f`; the whole result; -/
def chunkPts (c : Dev nD) (j : Fin 8) (f : S1x4096x2048.Idx → Elt F .bf16) : sProp 𝕄 :=
  (chunkV j).view.loc (c : Thread nD τ) ↦[(chunkV j).view.set]{fullShare} f
def outPts (c : Dev nD) (f : S1x4096x2048.Idx → Elt F .bf16) : sProp 𝕄 :=
  ((c : Thread nD τ).loc main_v1) ↦{fullShare} f
/-- device `c`'s staged block of `x`. -/
def xPts (c : Dev nD) : sProp 𝕄 :=
  ((c : Thread nD τ).loc cc0_stg1_0) ↦{fullShare} xOf m c

omit [FloatOps F] in
instance slotPts_storable (c : Dev nD) (j) (f) : BI.Storable (upEmb : UEmb _ 𝕄) (slotPts (F := F) c j f) := by unfold slotPts; infer_instance
omit [FloatOps F] in
instance chunkPts_storable (c : Dev nD) (j) (f) : BI.Storable (upEmb : UEmb _ 𝕄) (chunkPts (F := F) c j f) := by unfold chunkPts; infer_instance
omit [FloatOps F] in
instance outPts_storable (c : Dev nD) (f) : BI.Storable (upEmb : UEmb _ 𝕄) (outPts (F := F) c f) := by unfold outPts; infer_instance

omit [FloatOps F] in
/-- The result buffer is its eight chunks; -/
theorem outPts_chunks (c : Dev nD) (f : S1x4096x2048.Idx → Elt F .bf16) :
    (outPts c f : sProp 𝕄) = bigSep Finset.univ fun j : Fin 8 => chunkPts c j f := by
  unfold outPts
  rw [Ring.pointsTo_blocks (ℓ := (c : Thread nD τ).loc main_v1) chunkI chunkI_disjoint chunkI_cover f]
  exact BI.bigSep_congr fun j _ => by unfold chunkPts; rfl
omit [FloatOps F] in
/-- the send buffer is its eight slots. -/
theorem bufPts_slots (c : Dev nD) (f : S8x512x2048.Idx → Elt F .bf16) :
    (bufPts c f : sProp 𝕄) = bigSep Finset.univ fun j : Fin 8 => slotPts c j f := by
  unfold bufPts
  rw [Ring.pointsTo_blocks (ℓ := (c : Thread nD τ).loc cc0_scratch0) slotI slotI_disjoint slotI_cover f]
  exact BI.bigSep_congr fun j _ => by unfold slotPts; rfl

/-! ## The schedule -/

/-- Which transfer a send or receive semaphore belongs to (numbers 2 to 9 and 10 to 17). -/
def jOf (q : DmaSem sig) : Fin 8 := ⟨(q.val + 6) % 8, Nat.mod_lt _ (by decide)⟩
theorem jOf_send (j : Fin 8) : jOf (sendS j) = j := by have := j.isLt; apply Fin.ext; show (2 + j.val + 6) % 8 = j.val; omega
theorem jOf_recv (j : Fin 8) : jOf (recvS j) = j := by have := j.isLt; apply Fin.ext; show (10 + j.val + 6) % 8 = j.val; omega

/-- What the payment of a cell hands over. -/
def payOf (g : GSem nD τ sig) : sProp 𝕄 := match g.2 with
  | .reg _ => outPts (σ g.1.1) (outOf m (σ g.1.1))
  | .dma q => if q.val < 10 then slotPts g.1.1 (jOf q) (packed (xOf m g.1.1)) else chunkPts g.1.1 (jOf q) (resOf σ m g.1.1)
def amtOf (g : GSem nD τ sig) : ℕ := match g.2 with
  | .reg _ => 1
  | .dma _ => N
/-- The semaphores of the exchange: the barrier, and every transfer semaphore but the two of the staging. -/
def busy (sm : SemLoc sig) : Bool := match sm with
  | .reg _ => true
  | .dma q => decide (2 ≤ q.val)

/-- One round, of one payment. -/
def Rd : Rounds.Schedule (GSem nD τ sig) Unit 𝕄 where
  duties g r := if r = 0 ∧ g.1.2 = .tc ∧ busy g.2 = true then {()} else ∅
  unitless _ := False
  amount g _ _ := amtOf g
  payload g _ _ := payOf σ m g
  amount_pos g _ _ _ := by
    rcases g with ⟨t, _ | _⟩
    · exact Nat.one_pos
    · exact N_pos

instance Rd_payload_storable (g : GSem nD τ sig) (r : ℕ) (d : Unit) : BI.Storable (upEmb : UEmb _ 𝕄) ((Rd (F := F) σ m).payload g r d) := by
  rcases g with ⟨t, q | q⟩
  · show BI.Storable upEmb (outPts (σ t.1) (outOf m (σ t.1))); infer_instance
  · show BI.Storable upEmb (if q.val < 10 then slotPts t.1 (jOf q) (packed (xOf m t.1)) else chunkPts t.1 (jOf q) (resOf σ m t.1))
    split <;> infer_instance

section Sched
variable (c : Dev nD)

theorem busy_csem (k : CIx) : busy (csem k) = true := by
  rcases k with _ | j | j
  · rfl
  · exact decide_eq_true (Nat.le_add_right 2 j.val)
  · exact decide_eq_true (by show 2 ≤ 10 + j.val; omega)

omit [FloatOps F] in
/-- Every cell has the one payment in its round, -/
theorem duties_cell (k : CIx) : (Rd (F := F) σ m).duties (kcell (c, k)) 0 = {()} := by
  dsimp only [Rd]; exact if_pos ⟨rfl, rfl, busy_csem k⟩
omit [FloatOps F] in
theorem duty_mem (k : CIx) : () ∈ (Rd (F := F) σ m).duties (kcell (c, k)) 0 := by rw [duties_cell]; exact Finset.mem_singleton_self _
omit [FloatOps F] in
/-- and none later. -/
theorem duties_later (g : GSem nD τ sig) : ∀ r, 1 ≤ r → (Rd (F := F) σ m).duties g r = ∅ :=
  fun r hr => by dsimp only [Rd]; exact if_neg fun h => by omega

omit [FloatOps F] in
theorem expect_cell (k : CIx) : (Rd (F := F) σ m).expect (kcell (c, k)) 0 = amtOf (kcell (c, k)) := by
  unfold Schedule.expect Schedule.amountOf; rw [duties_cell, Finset.sum_singleton]; rfl
omit [FloatOps F] in
theorem rest_cell (k : CIx) : bigSep ((Rd (F := F) σ m).duties (kcell (c, k)) 0 \ ∅) (fun d => (Rd (F := F) σ m).payload (kcell (c, k)) 0 d)
    = payOf σ m (kcell (c, k)) := by
  rw [Finset.sdiff_empty, duties_cell, bigSep_singleton]; rfl

omit [FloatOps F] in
theorem pay_bar : payOf σ m (barCell c) = outPts (σ c) (outOf m (σ c)) := rfl
omit [FloatOps F] in
theorem pay_send (j : Fin 8) : payOf σ m (sendCell c j) = slotPts c j (packed (xOf m c)) := by
  have hj := j.isLt
  show (if 2 + j.val < 10 then slotPts c (jOf (sendS j)) (packed (xOf m c)) else _) = _
  rw [if_pos (by omega), jOf_send]
omit [FloatOps F] in
theorem pay_recv (j : Fin 8) : payOf σ m (recvCell c j) = chunkPts c j (resOf σ m c) := by
  show (if 10 + j.val < 10 then _ else chunkPts c (jOf (recvS j)) (resOf σ m c)) = _
  rw [if_neg (by omega), jOf_recv]

end Sched

/-! ## What each device owes; the order of the waits -/

/-- Before transfer `k`, device `c` owes the receive cells of its transfers from `k` on; -/
def owedFrom (c : Dev nD) (k : ℕ) : CellTallies nD τ sig Unit := ∑ j ∈ geS k, tallyAt (recvCell (σ c) j) () N
/-- at launch also the barrier unit of the device it receives from. -/
def O₀ (c : Dev nD) : CellTallies nD τ sig Unit := owedFrom σ c 0 + tallyAt (barCell (σ.symm c)) () 1

theorem owedFrom_step (c : Dev nD) (j : Fin 8) : owedFrom σ c j.val = owedFrom σ c (j.val + 1) + tallyAt (recvCell (σ c) j) () N := by
  unfold owedFrom; rw [geS_split, Finset.sum_insert (geS_notMem j), add_comm]
theorem owedFrom_eight (c : Dev nD) : owedFrom σ c 8 = 0 := by unfold owedFrom; rw [geS_eight, Finset.sum_empty]

theorem owedFrom_apply (c : Dev nD) (k : ℕ) (g : GSem nD τ sig) (u : Unit) :
    owedFrom σ c k g u = ∑ j ∈ geS k, (tallyAt (recvCell (σ c) j) () N : CellTallies nD τ sig Unit) g u := by
  unfold owedFrom; rw [Finset.sum_apply, Finsupp.finset_sum_apply]

theorem owedFrom_pos {c : Dev nD} {k : ℕ} {g : GSem nD τ sig} {u : Unit} (h : 0 < owedFrom σ c k g u) : ∃ j, g = recvCell (σ c) j := by
  by_contra hn
  rw [owedFrom_apply, Finset.sum_eq_zero] at h
  · exact Nat.lt_irrefl 0 h
  · intro j _
    rw [tallyAt_apply, if_neg fun h' => hn ⟨j, h'.1⟩]
theorem O₀_pos {c : Dev nD} {g : GSem nD τ sig} {u : Unit} (h : 0 < O₀ σ c g u) : (∃ j, g = recvCell (σ c) j) ∨ g = barCell (σ.symm c) := by
  by_contra hn
  rw [not_or] at hn
  unfold O₀ at h
  rw [Pi.add_apply, Finsupp.add_apply, tallyAt_apply, if_neg (fun h' => hn.2 h'.1), Nat.add_zero] at h
  exact hn.1 (owedFrom_pos σ h)

def L (g : GSem nD τ sig) : Finset Unit := if g.1.2 = .tc then {()} else ∅
/-- The barrier cells at 1, the receive cells at 2, every other semaphore at 0. -/
def lv (g : GSem nD τ sig) (_ : Unit) : ℕ := match g.2 with
  | .reg _ => 1
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_recv (c : Dev nD) (j : Fin 8) (u : Unit) : lv (recvCell c j) u = 2 := if_pos (Nat.le_add_right 10 j.val)
theorem lv_bar (c : Dev nD) (u : Unit) : lv (barCell c) u = 1 := rfl

omit [FloatOps F] in
/-- A wait of the staging: it owes what it owed at launch, or nothing; -/
theorem mayWait_stage (c : Dev nD) (q : DmaSem sig) (hq : q.val < 10) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _ _)
      (fun g u hg => ?_)
      (fun p hp => by rw [Finset.mem_singleton.mp hp]; exact Nat.le_of_eq (if_neg (by show ¬ 10 ≤ q.val; omega)))
      (fun g u hg => ?_)
    · rcases O₀_pos σ hg with ⟨j, rfl⟩ | rfl <;> exact mem_L _ _ _
    · rcases O₀_pos σ hg with ⟨j, rfl⟩ | rfl
      · rw [lv_recv]; decide
      · rw [lv_bar]; decide
  · rw [MayWait_zero]; iintro -; iempintro

omit [FloatOps F] in
/-- the barrier wait: it owes the eight receive cells of its peer. -/
theorem mayWait_bar (c : Dev nD) : (levAts L lv : sProp 𝕄) ⊢ MayWait (c : Thread nD τ) (.reg barS) () (owedFrom σ c 0) := by
  refine MayOwe.of_cut (L := L) (lev := lv) 1 (fun p hp => by rw [Finset.mem_singleton.mp hp]; exact mem_L c _ _)
    (fun g u hg => ?_) (fun p hp => by rw [Finset.mem_singleton.mp hp]; exact Nat.le_refl 1) (fun g u hg => ?_)
  · obtain ⟨j, rfl⟩ := owedFrom_pos σ hg; exact mem_L _ _ _
  · obtain ⟨j, rfl⟩ := owedFrom_pos σ hg; rw [lv_recv]; decide

/-! ## What a device holds -/

variable (K : Dev nD × CIx → ℕ)

/-- Known to all: every cell's invariant, and that every cell has reached its round. -/
def records : sProp 𝕄 :=
  iprop((bigSep Finset.univ fun ck : Dev nD × CIx => cellInv ER (Rd σ m) (K ck) (kcell ck))
    ∗ bigSep Finset.univ fun ck : Dev nD × CIx => reached ER (kcell ck) 0)

instance records_persistent : BI.Persistent (records σ m K) := by unfold records; infer_instance

omit [FloatOps F] in
theorem records_inv (ck : Dev nD × CIx) : records σ m K ⊢ cellInv ER (Rd σ m) (K ck) (kcell ck) := by
  unfold records
  iintro ⟨HI, -⟩
  iapply (show (bigSep Finset.univ fun ck : Dev nD × CIx => (cellInv ER (Rd σ m) (K ck) (kcell ck) : sProp 𝕄)) ⊢ cellInv ER (Rd σ m) (K ck) (kcell ck)
    from bigSep_elim (Finset.mem_univ ck))
  iexact HI
omit [FloatOps F] in
theorem records_reached (ck : Dev nD × CIx) : records σ m K ⊢ reached ER (kcell ck) 0 := by
  unfold records
  iintro ⟨-, HR⟩
  iapply (show (bigSep Finset.univ fun ck : Dev nD × CIx => (reached ER (kcell ck) 0 : sProp 𝕄)) ⊢ reached ER (kcell ck) 0
    from bigSep_elim (Finset.mem_univ ck))
  iexact HR

/-- The rights to the payments device `c` makes: the barrier of the device it receives from, its own send cells, its
    peer's receive cells. -/
def payToks (c : Dev nD) : sProp 𝕄 :=
  iprop(dutyTok ER (barCell (σ.symm c)) 0 ()
    ∗ (bigSep Finset.univ fun j : Fin 8 => dutyTok ER (sendCell c j) 0 ())
    ∗ (bigSep Finset.univ fun j : Fin 8 => dutyTok ER (recvCell (σ c) j) 0 ()))
/-- Its positions in its own cells. -/
def places (c : Dev nD) : sProp 𝕄 :=
  iprop(atPos ER (barCell c) 0 ∅ 0
    ∗ (bigSep Finset.univ fun j : Fin 8 => atPos ER (sendCell c j) 0 ∅ 0)
    ∗ (bigSep Finset.univ fun j : Fin 8 => atPos ER (recvCell c j) 0 ∅ 0))

/-- What the protocol gives device `c`; -/
def ghost (c : Dev nD) : sProp 𝕄 := iprop(records σ m K ∗ places c ∗ payToks σ c)

/-- with the credits of the payments it will wait for, the order of the waits and its result buffer: what its body starts
    from, besides its staged operands and the send buffer. -/
def start (c : Dev nD) : sProp 𝕄 :=
  iprop((∃ K, ghost σ m K c)
    ∗ (cred (tallyAt (barCell c) () 1) ∗ (bigSep Finset.univ fun j : Fin 8 => cred (tallyAt (recvCell c j) () N)))
    ∗ levAts L lv ∗ outPts c (outOf m c))

def Φ₀ (c : Dev nD) : sProp 𝕄 := iprop(start σ m c ∗ ∃ f, bufPts c f)
/-- After its body: the send buffer, the result holding the block of the device it receives from, and every semaphore at
    zero. -/
def Φ₁ (c : Dev nD) : sProp 𝕄 :=
  iprop((∃ f, bufPts c f) ∗ outPts c (resOf σ m c) ∗ semVal (barCell c) 0
    ∗ (bigSep Finset.univ fun j : Fin 8 => semVal (sendCell c j) 0) ∗ (bigSep Finset.univ fun j : Fin 8 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The staged operands: the table and the block of `x`, whole. -/
def dats (_ : Fin 1) (c : Dev nD) : Dat τ (Elt F) Unit ℕ UU ℕ cfg0 c where
  A w := m ((cfg0.win w).arr.view.loc (c : Thread nD τ))
  after w _ := match w with
    | ⟨0, _⟩ => tblOf m c
    | ⟨1, _⟩ => xOf m c
  Φ t := match t with
    | ⟨0, _⟩ => Φ₀ σ m c
    | ⟨_ + 1, _⟩ => Φ₁ σ m c
  q _ := fullShare
  owed t := match t with
    | ⟨0, _⟩ => O₀ σ c
    | ⟨_ + 1, _⟩ => 0

end Cert.Shift

end
-- ==== Proof.Find.lean ====
/-
  The table and the loop over it. A device reads its destination from the table at its own number, then finds the device
  it receives from by a loop of eight trips: trip `k` keeps `k` if the table's word `k` is the device's own number. With
  the table of the permutation `σ` the loop yields `σ⁻¹ c` (`wp_find`).
-/
module

public import proofs.«01_k».proof.Proof.Protocol
public import Idealize.ShloMosaic.Lib.Scf

@[expose] public section

noncomputable section

namespace Cert.Shift

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (σ : Dev nD ≃ Dev nD)

abbrev 𝒱₀ : Variants := Variants.none

/-! ## The table -/

/-- The word `k` of a table, as an index; -/
def at8 (k : Dev nD) : S8.Idx := fun a => ⟨k.val, by have : k.val < 8 := k.isLt; fin_cases a; exact this⟩
/-- the table of the permutation `σ`: word `k` is `σ k`. -/
def tableOf : S8.Idx → BitVec 32 := fun i => BitVec.ofNat 32 (σ ⟨(i 0).val, (i 0).isLt⟩).val

theorem tableOf_at (k : Dev nD) : tableOf σ (at8 k) = BitVec.ofNat 32 (σ k).val := rfl

/-- Reading the one word at offset `k` reads word `k`. -/
theorem word_at (T : S8.Idx → BitVec 32) (k : Dev nD) (off : Fin 1 → Nat) (hoff : off = ![k.val]) (hb : ∀ a, off a + S1.size a ≤ S8.size a)
    (h1 : 0 < (S1 : Shape).numel) :
    (piM.access (Rect.unit (s := S8) off S1.size hb) : View sig .tc _ _ _).read (Elt F) T (Shape.Idx.first (s := S1) h1) = T (at8 k) := by
  subst hoff
  show T _ = T _
  refine congrArg _ (funext fun a => Fin.ext ?_)
  fin_cases a
  have h0 : (Shape.Idx.first (s := S1) h1 0).val < 1 := (Shape.Idx.first (s := S1) h1 0).isLt
  show k.val + 1 * (Shape.Idx.first (s := S1) h1 0).val = k.val
  omega

/-- The device's own number as the kernel computes it. -/
theorem own_eq (c : Dev nD) : Scalar.remsi (Scalar.divsi (Dev.word c) 1#32) 8#32 = BitVec.ofNat 32 c.val := by
  revert c; decide

theorem ofNat_inj {a b : Dev nD} : BitVec.ofNat 32 a.val = BitVec.ofNat 32 b.val ↔ a = b := by revert a b; decide

/-! ## The loop -/

/-- What the loop holds before trip `k`: the device it looks for, once passed. -/
def found (c : Dev nD) (k : ℕ) : BitVec 32 := if (σ.symm c).val < k then BitVec.ofNat 32 (σ.symm c).val else 0#32

theorem found_zero (c : Dev nD) : found σ c 0 = 0#32 := if_neg (Nat.not_lt_zero _)
theorem found_eight (c : Dev nD) : found σ c 8 = BitVec.ofNat 32 (σ.symm c).val := if_pos (σ.symm c).isLt

theorem iv_eq (k : ℕ) : Scf.iv 0#32 1#32 k = BitVec.ofNat 32 k := by
  unfold Scf.iv; rw [BitVec.mul_one, BitVec.zero_add]

/-- One trip. -/
theorem found_step (c k : Dev nD) :
    Scalar.select (Scalar.cmpi .eq (tableOf σ (at8 k)) (BitVec.ofNat 32 c.val)) (Scf.iv 0#32 1#32 k.val) (found σ c k.val) = found σ c (k.val + 1) := by
  rw [tableOf_at, iv_eq]
  have hc : Scalar.cmpi .eq (BitVec.ofNat 32 (σ k).val) (BitVec.ofNat 32 c.val) = if σ k = c then 1#1 else 0#1 := by
    generalize σ k = a; revert a c; decide
  rw [hc]
  by_cases h : σ k = c
  · have hk : σ.symm c = k := by rw [← h, Equiv.symm_apply_apply]
    rw [if_pos h]
    show BitVec.ofNat 32 k.val = _
    unfold found; rw [hk, if_pos (Nat.lt_succ_self _)]
  · rw [if_neg h]
    show found σ c k.val = _
    have hk : (σ.symm c).val ≠ k.val := fun e => h (by rw [← Fin.ext e, Equiv.apply_symm_apply])
    unfold found
    by_cases hl : (σ.symm c).val < k.val
    · rw [if_pos hl, if_pos (by omega)]
    · rw [if_neg hl, if_neg (by omega)]

/-- The staged table. -/
def piPts (c : Dev nD) (T : S8.Idx → BitVec 32) : sProp 𝕄 :=
  (((c : Thread nD τ).loc cc0_stg0_0) ↦{fullShare} (T : Buf (Elt F) ((c : Thread nD τ).loc cc0_stg0_0)))

theorem trips_eq : k0_t1_loop.trips = 8 := by decide +kernel

set_option maxHeartbeats 1000000 in
/-- The loop at the head of a program, on device `c`: it yields `σ⁻¹ c`. -/
theorem wp_find (c : Dev nD) (v2 : BitVec 32) (hv : v2 = BitVec.ofNat 32 c.val) {α : Type}
    {kk : BitVec 32 → Prog (TpuEff nD τ sig (Elt F) Λ₀ .tc) α} {Q : α → sProp 𝕄} :
    piPts (F := F) c (tableOf σ)
      ⊢ iprop((piPts (F := F) c (tableOf σ) -∗ wp frame (wpE (defs₀ (F := F)) 𝒱₀ (c : Thread nD τ) none) Set.univ (kk (BitVec.ofNat 32 (σ.symm c).val)) Q)
          -∗ wp frame (wpE (defs₀ (F := F)) 𝒱₀ (c : Thread nD τ) none) Set.univ
            (Scf.Loop.for k0_t1_loop k0_t1_ok 0#32
              (k0_t1_body piM (Memref.isWhole_whole _) xM (Memref.isWhole_whole _) oM (Memref.isWhole_whole _) bM (Memref.isWhole_whole _) cc0_scratch1 cc0_scratch2 v2) >>= kk) Q) := by
  subst hv
  have hbody : ∀ (k : Fin k0_t1_loop.trips) (acc : BitVec 32),
      iprop(piPts (F := F) c (tableOf σ) ∗ ⌜acc = found σ c k.val⌝)
        ⊢ wp frame (wpE (defs₀ (F := F)) 𝒱₀ (c : Thread nD τ) none) Set.univ
            (k0_t1_body piM (Memref.isWhole_whole _) xM (Memref.isWhole_whole _) oM (Memref.isWhole_whole _) bM (Memref.isWhole_whole _) cc0_scratch1 cc0_scratch2
              (BitVec.ofNat 32 c.val) k acc)
            (fun acc' => iprop(piPts (F := F) c (tableOf σ) ∗ ⌜acc' = found σ c (k.val + 1)⌝)) := by
    intro k acc
    have hk8 : k.val < 8 := trips_eq ▸ k.isLt
    unfold k0_t1_body
    simp only [smemLoad, smemLoadElt, Prog.lift, Prog.bind_op, Prog.bind_ret, Prog.pure_eq_ret]
    iintro ⟨Hp, %hacc⟩
    subst hacc
    unfold piPts
    iapply (wp_load_rect 𝒱₀ (c : Thread nD τ) none Set.univ (m := piM) (r := Rect.unit (s := S8) (k0_off2 k) S1.size (k0_off2_inb k))
      (f := tableOf σ) (Finset.subset_univ _)) $$ Hp; iintro Hp
    rw [wp_ret]; imodintro
    isplitl [Hp]; · iexact Hp
    ipureintro
    refine Eq.trans ?_ (found_step σ c ⟨k.val, hk8⟩)
    rw [word_at (F := F) (tableOf σ) ⟨k.val, hk8⟩ (k0_off2 k) (k0_off2_eq k)]
  iintro Hp Hk
  iapply (Scf.wp_for_bind frame (wpE (defs₀ (F := F)) 𝒱₀ (c : Thread nD τ) none) Set.univ _ _ _ k0_t1_ok _ _
    (fun k acc => iprop(piPts (F := F) c (tableOf σ) ∗ ⌜acc = found σ c k⌝)) hbody) $$ [Hp]
  · isplitl [Hp]; · iexact Hp
    ipureintro; exact (found_zero σ c).symm
  iintro %acc ⟨Hp, %hacc⟩
  have h8 : acc = BitVec.ofNat 32 (σ.symm c).val := by
    rw [hacc, show Scf.trips k0_t1_loop.lb k0_t1_loop.ub k0_t1_loop.st = 8 from trips_eq, found_eight]
  subst h8
  iapply Hk; iexact Hp

/-! ## The devices the table names -/

/-- The destination read from the table passes the kernel's checks, -/
theorem chk2 (c : Dev nD) : k0_chk2 (BitVec.ofNat 32 (σ c).val) := by
  generalize σ c = d; revert d; decide +kernel
/-- as the device found by the loop does; -/
theorem chk1 (c : Dev nD) : k0_chk1 (BitVec.ofNat 32 c.val) := by
  revert c; decide +kernel
/-- and the addresses computed from them are those devices. -/
theorem dev1_eq (c : Dev nD) : k0_dev1 (BitVec.ofNat 32 c.val) = c.val := by revert c; decide +kernel
theorem dev2_eq (c : Dev nD) : k0_dev2 (BitVec.ofNat 32 c.val) = c.val := by revert c; decide +kernel

end Cert.Shift

end
-- ==== Proof.Steps.lean ====
/-
  The body's two repeated steps, at any transfer `j` of any device `c`: the chunk copied into its slot and sent
  (`wp_chunk`), and the two waits that bring the slot and the received chunk back (`wp_waits`). Each is stated between
  the device's holdings before and after it (`sending`, `waiting`), with the program's offsets, semaphores and addressed
  device as variables that equal the ones named here.
-/
module

public import proofs.«01_k».proof.Proof.Find

@[expose] public section

noncomputable section

namespace Cert.Shift

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Dev nD ≃ Dev nD)
variable (m : (ℓ : Loc nD τ sig) → Buf (Elt F) ℓ)
variable (K : Dev nD × CIx → ℕ)

/-! ## Sending -/

/-- What transfer `j` of device `c` uses: its slot, the chunk of the peer's result it writes, and the rights to its two
    payments. -/
def sendRes (c : Dev nD) (j : Fin 8) : sProp 𝕄 :=
  iprop((∃ f, slotPts c j f) ∗ chunkPts (σ c) j (outOf m (σ c)) ∗ dutyTok ER (sendCell c j) 0 () ∗ dutyTok ER (recvCell (σ c) j) 0 ())
/-- Before transfer `k`: the means of the transfers to come, the send credits of those made, the debt that remains, and the
    staged block. -/
def sending (c : Dev nD) (k : ℕ) : sProp 𝕄 :=
  iprop(bigSep (geS k) (sendRes σ m c) ∗ (bigSep (ltS k) fun j => cred (tallyAt (sendCell c j) () N))
    ∗ (∃ W, owes (c : Thread nD τ) (owedFrom σ c k) W) ∗ xPts m c)

theorem slot_access (j : Fin 8) : (bM.access (slotR j)).set ⊆ (slotV j).view.set := by
  show (View.slice (View.whole cc0_scratch0) (slotR j)).set ⊆ slotI j
  rw [slotI_eq, View.set_slice]
  exact Finset.subset_of_eq Finset.map_refl

omit [FloatOps F] in
/-- The slot once stored into; -/
theorem slotPts_filled (c : Dev nD) (j : Fin 8) (f : S8x512x2048.Idx → Elt F .bf16) (x : S1x4096x2048.Idx → Elt F .bf16) :
    (((bM.access (slotR j)).loc (c : Thread nD τ) ↦[(slotV j).view.set]{fullShare}
      ((bM.access (slotR j)).write (Elt F) f ((xM.access (chunkR j)).read (Elt F) x) Finset.univ)) : sProp 𝕄) = slotPts c j (packed x) := by
  unfold slotPts
  exact pointsTo_congr (slot_filled j f x)
omit [FloatOps F] in
/-- the chunk once landed in. -/
theorem chunkPts_landed (c : Dev nD) (j : Fin 8) (f x : S1x4096x2048.Idx → Elt F .bf16) :
    (((chunkV j).view.loc (c : Thread nD τ) ↦[(chunkV j).view.set]{fullShare}
      ((chunkV j).view.write (Elt F) f ((slotV j).view.read (Elt F) (packed x)) Finset.univ)) : sProp 𝕄) = chunkPts c j x := by
  unfold chunkPts
  exact pointsTo_congr (chunk_landed j f x)

/-- Every transfer's size is that of the first. -/
theorem amount_chunk (j : Fin 8) (q : DmaSem sig) : (chunkV j).view.amount (.dma q) = N := rfl
omit [FloatOps F] in
theorem amount_send (c : Dev nD) (j : Fin 8) : (Rd (F := F) σ m).amount (sendCell c j) 0 () = N := rfl
omit [FloatOps F] in
theorem amount_recv (c : Dev nD) (j : Fin 8) : (Rd (F := F) σ m).amount (recvCell c j) 0 () = N := rfl

set_option maxHeartbeats 1000000 in
/-- Transfer `j` of device `c`: chunk `j` of the staged block loaded, stored in slot `j` and the slot sent into chunk `j`
    of the result of `σ c`. -/
theorem wp_chunk (c n : Dev nD) (j : Fin 8) (hn : n = σ c)
    (offX : Fin 3 → Nat) (hoX : offX = chunkOff j) (hbX : ∀ a, offX a + S1x512x2048.size a ≤ S1x4096x2048.size a)
    (offB : Fin 3 → Nat) (hoB : offB = slotOff j) (hbB : ∀ a, offB a + S1x512x2048.size a ≤ S8x512x2048.size a)
    (sS rS : DmaSem sig) (hsS : sS = sendS j) (hrS : rS = recvS j)
    (pay : Vec F S1x512x2048 .bf16 → Vec F S1x512x2048 .bf16) (hpay : pay = fun v => v)
    {hl₁ : xM.view.LoadsAt (Rect.unit (s := S1x4096x2048) offX S1x512x2048.size hbX).toLoadRect}
    {hl₂ : bM.view.LoadsAt (Rect.unit (s := S8x512x2048) offB S1x512x2048.size hbB).toLoadRect}
    {hx : (bM.access (Rect.unit (s := S8x512x2048) offB S1x512x2048.size hbB)).Stores Finset.univ}
    {hm : (Finset.univ : Finset S1x512x2048.Idx) = Finset.univ ∨ ∀ a, (Rect.unit (s := S8x512x2048) offB S1x512x2048.size hbB).stride a = 1}
    {hs₁ : ∀ a, (Rect.unit (s := S8x512x2048) offB S1x512x2048.size hbB).stride a = 1}
    {hs₂ : ∀ a, (Rect.unit (s := S1x4096x2048) offX S1x512x2048.size hbX).stride a = 1}
    {hsc : ((oM.slice (Rect.unit (s := S1x4096x2048) offX S1x512x2048.size hbX) hs₂).squeeze S512x2048 squeezes_S1x512x2048_S512x2048 : Memref sig (Dev.tc n : Thread nD τ).2.kind .hbm S512x2048 .bf16).view.ref.isScScratch = false}
    {hsrc : ((bM.slice (Rect.unit (s := S8x512x2048) offB S1x512x2048.size hbB) hs₁).squeeze S512x2048 squeezes_S1x512x2048_S512x2048).view.WordExact}
    {hdst : ((oM.slice (Rect.unit (s := S1x4096x2048) offX S1x512x2048.size hbX) hs₂).squeeze S512x2048 squeezes_S1x512x2048_S512x2048).view.WordExact}
    {hsem : DmaTarget.Typed .vmem (.dma rS) (.remote (Dev.tc n : Thread nD τ) ((oM.slice (Rect.unit (s := S1x4096x2048) offX S1x512x2048.size hbX) hs₂).squeeze S512x2048 squeezes_S1x512x2048_S512x2048) (.dma sS) hsc)}
    {α : Type} {Q : α → sProp 𝕄} {k : PUnit → Prog (TpuEff nD τ sig (Elt F) Λ₀ .tc) α} :
    iprop(records σ m K ∗ sending σ m c j.val)
      ⊢ iprop((sending σ m c (j.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S1x4096x2048) offX S1x512x2048.size hbX).toLoadRect hl₁) fun v =>
                .op (.load bM (Rect.unit (s := S8x512x2048) offB S1x512x2048.size hbB).toLoadRect hl₂) fun _ =>
                  .op (.store bM (Rect.unit (s := S8x512x2048) offB S1x512x2048.size hbB) (pay v) Finset.univ hx hm) fun _ =>
                    .op (.enqueueDma ((bM.slice (Rect.unit (s := S8x512x2048) offB S1x512x2048.size hbB) hs₁).squeeze S512x2048 squeezes_S1x512x2048_S512x2048)
                      (.remote (Dev.tc n : Thread nD τ) ((oM.slice (Rect.unit (s := S1x4096x2048) offX S1x512x2048.size hbX) hs₂).squeeze S512x2048 squeezes_S1x512x2048_S512x2048) (.dma sS) hsc)
                      (.dma rS) hsrc hdst hsem) k) Q) := by
  subst hn hoX hoB hsS hrS hpay
  unfold sending
  rw [bigSep_ge, bigSep_lt, sendRes]
  iintro ⟨#HR, ⟨⟨⟨%f, Hslot⟩, Hch, HtS, HtR⟩, Hge⟩, Hlt, ⟨%W, HO⟩, Hx⟩ Hk
  unfold xPts slotPts
  iapply (wp_load_rect 𝒱₀ (c : Thread nD τ) none Set.univ (m := xM) (r := chunkR j) (f := xOf m c) (Finset.subset_univ _)) $$ Hx; iintro Hx
  iapply (wp_load_rect 𝒱₀ (c : Thread nD τ) none Set.univ (m := bM) (r := slotR j) (f := f) (slot_access j)) $$ Hslot; iintro Hslot
  iapply (wp_store 𝒱₀ (c : Thread nD τ) none Set.univ (m := bM) (r := slotR j) (Mk := Finset.univ) (f := f) (slot_access j)) $$ Hslot; iintro Hslot
  ihave Hslot := (Entails.of_eq (slotPts_filled c j f (xOf m c))) $$ Hslot
  unfold slotPts
  iapply (Rounds.wp_send_pointsTo 𝒱₀ ER (Rd σ m) (c : Thread nD τ) none (κ₁ := K (c, sendX j)) (κ₂ := K (σ c, recvX j))
      (r₁ := 0) (r₂ := 0) (d₁ := ()) (d₂ := ()) (fs := packed (xOf m c)) (fd := outOf m (σ c))
      (duty_mem σ m c (sendX j)) (duty_mem σ m (σ c) (recvX j)) () () N (amount_chunk j (recvS j)) (amount_send σ m c j) (amount_recv σ m (σ c) j) (owedFrom σ c (j.val + 1)) (owedFrom_step σ c j)
      (W := W)
      (by show _ ⊢ payOf σ m (sendCell c j); rw [pay_send]; unfold slotPts; exact BI.Entails.refl _)
      (by
        show _ ⊢ payOf σ m (recvCell (σ c) j)
        rw [pay_recv, resOf, Equiv.symm_apply_apply]
        exact Entails.of_eq (chunkPts_landed (σ c) j (outOf m (σ c)) (xOf m c)))) $$ [Hslot Hch HO HtS HtR]
  · isplitr; · iapply (records_inv σ m K (c, sendX j)); iexact HR
    isplitr; · iapply (records_inv σ m K (σ c, recvX j)); iexact HR
    isplitl [Hslot]; · iexact Hslot
    isplitl [Hch]; · unfold chunkPts; iexact Hch
    isplitl [HO]; · iexact HO
    isplitl [HtS]; · iexact HtS
    isplitr; · iapply (records_reached σ m K (c, sendX j)); iexact HR
    isplitl [HtR]; · iexact HtR
    iapply (records_reached σ m K (σ c, recvX j)); iexact HR
  iintro ⟨Hc, HO⟩
  iapply Hk
  isplitl [Hge]; · iexact Hge
  isplitl [Hc Hlt]
  · isplitl [Hc] <;> iassumption
  isplitl [HO]; · iexists W; iexact HO
  iexact Hx

/-! ## Waiting -/

/-- What the waits of transfer `j` use: the device's positions in its two cells and the credits of the two payments; -/
def waitRes (c : Dev nD) (j : Fin 8) : sProp 𝕄 :=
  iprop((atPos ER (sendCell c j) 0 ∅ 0 ∗ atPos ER (recvCell c j) 0 ∅ 0) ∗ cred (tallyAt (sendCell c j) () N) ∗ cred (tallyAt (recvCell c j) () N))
/-- what they bring: the slot, the received chunk, and both counters at zero. -/
def waitDone (c : Dev nD) (j : Fin 8) : sProp 𝕄 :=
  iprop((slotPts c j (packed (xOf m c)) ∗ chunkPts c j (resOf σ m c)) ∗ semVal (sendCell c j) 0 ∗ semVal (recvCell c j) 0)
/-- Before the waits of transfer `k`. -/
def waiting (c : Dev nD) (k : ℕ) : sProp 𝕄 :=
  iprop(bigSep (geS k) (waitRes c) ∗ bigSep (ltS k) (waitDone σ m c) ∗ ∃ W, owes (c : Thread nD τ) 0 W)

set_option maxHeartbeats 1000000 in
/-- The two waits of transfer `j` of device `c`. -/
theorem wp_waits (c : Dev nD) (j : Fin 8)
    (offX : Fin 3 → Nat) (hoX : offX = chunkOff j) (hbX : ∀ a, offX a + S1x512x2048.size a ≤ S1x4096x2048.size a)
    (offB : Fin 3 → Nat) (hoB : offB = slotOff j) (hbB : ∀ a, offB a + S1x512x2048.size a ≤ S8x512x2048.size a)
    (sS rS : DmaSem sig) (hsS : sS = sendS j) (hrS : rS = recvS j)
    {hs₁ : ∀ a, (Rect.unit (s := S8x512x2048) offB S1x512x2048.size hbB).stride a = 1}
    {hs₂ : ∀ a, (Rect.unit (s := S1x4096x2048) offX S1x512x2048.size hbX).stride a = 1}
    {hB₁ hB₂ : ((bM.slice (Rect.unit (s := S8x512x2048) offB S1x512x2048.size hbB) hs₁).squeeze S512x2048 squeezes_S1x512x2048_S512x2048).view.WordExact}
    {hX₁ hX₂ : ((oM.slice (Rect.unit (s := S1x4096x2048) offX S1x512x2048.size hbX) hs₂).squeeze S512x2048 squeezes_S1x512x2048_S512x2048).view.WordExact}
    {α : Type} {Q : α → sProp 𝕄} {k : PUnit → Prog (TpuEff nD τ sig (Elt F) Λ₀ .tc) α} :
    iprop(records σ m K ∗ waiting σ m c j.val)
      ⊢ iprop((waiting σ m c (j.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS ((oM.slice (Rect.unit (s := S1x4096x2048) offX S1x512x2048.size hbX) hs₂).squeeze S512x2048 squeezes_S1x512x2048_S512x2048)
                  ((bM.slice (Rect.unit (s := S8x512x2048) offB S1x512x2048.size hbB) hs₁).squeeze S512x2048 squeezes_S1x512x2048_S512x2048) hX₁ hB₁) fun _ =>
                .op (.waitDma2 rS ((bM.slice (Rect.unit (s := S8x512x2048) offB S1x512x2048.size hbB) hs₁).squeeze S512x2048 squeezes_S1x512x2048_S512x2048)
                  ((oM.slice (Rect.unit (s := S1x4096x2048) offX S1x512x2048.size hbX) hs₂).squeeze S512x2048 squeezes_S1x512x2048_S512x2048) hB₂ hX₂) k) Q) := by
  subst hoX hoB hsS hrS
  unfold waiting
  rw [bigSep_ge, bigSep_lt, waitRes]
  iintro ⟨#HR, ⟨⟨⟨HaS, HaR⟩, HcS, HcR⟩, Hge⟩, Hlt, ⟨%W, HO⟩⟩ Hk
  iapply (Rounds.wp_wait_rest_token 𝒱₀ ER (Rd σ m) (c : Thread nD τ) none (κ := K (c, sendX j))
      (wpE_waitDma2_eq 𝒱₀ (c : Thread nD τ) none Set.univ) (Set.mem_univ _) () (O := 0) (W := W) (R := 0) (m := 0) (T := ∅)
      (by rw [Nat.zero_add, show (Rd σ m).expect ((c : Thread nD τ), .dma (sendS j)) 0 = _ from expect_cell σ m c (sendX j)]; rfl)) $$ [HcS HO HaS]
  · isplitr; · iapply (records_inv σ m K (c, sendX j)); iexact HR
    isplitl [HcS]; · iexact HcS
    isplitl [HO]; · iexact HO
    isplitr; · rw [MayWait_zero]; iempintro
    iexact HaS
  iintro ⟨HO, HaS, -, Hpay⟩
  ihave Hslot := (Entails.of_eq ((rest_cell σ m c (sendX j)).trans (pay_send σ m c j))) $$ Hpay
  iapply (Rounds.wp_wait_rest_token 𝒱₀ ER (Rd σ m) (c : Thread nD τ) none (κ := K (c, recvX j))
      (wpE_waitDma2_eq 𝒱₀ (c : Thread nD τ) none Set.univ) (Set.mem_univ _) () (O := 0) (R := 0) (m := 0) (T := ∅)
      (by rw [Nat.zero_add, show (Rd σ m).expect ((c : Thread nD τ), .dma (recvS j)) 0 = _ from expect_cell σ m c (recvX j)]; rfl)) $$ [HcR HO HaR]
  · isplitr; · iapply (records_inv σ m K (c, recvX j)); iexact HR
    isplitl [HcR]; · iexact HcR
    isplitl [HO]; · iexact HO
    isplitr; · rw [MayWait_zero]; iempintro
    iexact HaR
  iintro ⟨HO, HaR, -, Hpay⟩
  ihave Hch := (Entails.of_eq ((rest_cell σ m c (recvX j)).trans (pay_recv σ m c j))) $$ Hpay
  imod (Rounds.cell_close ER (Rd σ m) (Set.mem_univ (K (c, sendX j))) (fun h => h) (R := 0 + 1) (duties_later σ m (sendCell c j))) $$ [HaS] with HzS
  · isplitr; · iapply (records_inv σ m K (c, sendX j)); iexact HR
    iexact HaS
  imod (Rounds.cell_close ER (Rd σ m) (Set.mem_univ (K (c, recvX j))) (fun h => h) (R := 0 + 1) (duties_later σ m (recvCell c j))) $$ [HaR] with HzR
  · isplitr; · iapply (records_inv σ m K (c, recvX j)); iexact HR
    iexact HaR
  iapply Hk
  isplitl [Hge]; · iexact Hge
  isplitl [Hslot Hch HzS HzR Hlt]
  · isplitl [Hslot Hch HzS HzR]
    · unfold waitDone
      isplitl [Hslot Hch]
      · isplitl [Hslot] <;> iassumption
      isplitl [HzS] <;> iassumption
    iexact Hlt
  iexists _; iexact HO

end Cert.Shift

end
-- ==== Proof.Body.lean ====
/-
  The body of the kernel, run once at any device `c` of any permutation `σ`: from the staged operands, the send buffer and
  what the protocol gives `c` (`bodyPre`) to the result holding the block of device `σ⁻¹ c` and every semaphore at zero
  (`bodyPost`). The entry handshake hands the result buffer of `c` to the device that writes it and brings that of
  `σ c`; then the eight transfers and the eight pairs of waits, by the two steps of `Steps`.
-/
module

public import proofs.«01_k».proof.Proof.Steps
public import proofs.«01_k».proof.Proof.Gen.KernelIdeal.Points

@[expose] public section

noncomputable section

namespace Cert.Shift

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Dev nD ≃ Dev nD)
variable (m : (ℓ : Loc nD τ sig) → Buf (Elt F) ℓ)
variable (K : Dev nD × CIx → ℕ)

/-! ## The entry handshake -/

/-- The signal of device `c` to the device `n` it receives from: its result buffer goes with it. -/
theorem wp_enter (c n : Dev nD) (hn : n = σ.symm c) (W : Waits sig Unit)
    {α : Type} {Q : α → sProp 𝕄} {k : PUnit → Prog (TpuEff nD τ sig (Elt F) Λ₀ .tc) α} :
    iprop(records σ m K ∗ owes (c : Thread nD τ) (O₀ σ c) W ∗ dutyTok ER (barCell (σ.symm c)) 0 () ∗ outPts c (outOf m c))
      ⊢ iprop((owes (c : Thread nD τ) (owedFrom σ c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1 : ℕ) : Int) from rfl]
  iintro ⟨#HR, HO, Ht, Hout⟩ Hk
  iapply (Rounds.wp_signal 𝒱₀ ER (Rd σ m) (c : Thread nD τ) none (dst := (σ.symm c : Thread nD τ)) (κ := K (σ.symm c, barX))
      (d := ()) (duty_mem σ m (σ.symm c) barX) (show (Rd σ m).amount (barCell (σ.symm c)) 0 () = 1 from rfl) () (O₀ := O₀ σ c) (owedFrom σ c 0) rfl) $$ [HO Ht Hout]
  · isplitr; · iapply (records_inv σ m K (σ.symm c, barX)); iexact HR
    isplitl [HO]; · iexact HO
    isplitl [Ht]; · iexact Ht
    isplitl [Hout]
    · iapply (show outPts c (outOf m c) ⊢ (Rd σ m).payload (barCell (σ.symm c)) 0 () from by
        show _ ⊢ payOf σ m (barCell (σ.symm c))
        rw [pay_bar, Equiv.apply_symm_apply])
      iexact Hout
    iapply (records_reached σ m K (σ.symm c, barX)); iexact HR
  iexact Hk

/-- The wait for the signal of device `σ c`: the result buffer of `σ c` comes with it, and the barrier is at zero again. -/
theorem wp_entered (c : Dev nD) (W : Waits sig Unit)
    {α : Type} {Q : α → sProp 𝕄} {k : PUnit → Prog (TpuEff nD τ sig (Elt F) Λ₀ .tc) α} :
    iprop(records σ m K ∗ cred (tallyAt (barCell c) () 1) ∗ owes (c : Thread nD τ) (owedFrom σ c 0) W ∗ levAts L lv ∗ atPos ER (barCell c) 0 ∅ 0)
      ⊢ iprop(((∃ W, owes (c : Thread nD τ) (owedFrom σ c 0) W) ∗ outPts (σ c) (outOf m (σ c)) ∗ semVal (barCell c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32 : BitVec 32).toInt) k) Q) := by
  rw [show (1#32 : BitVec 32).toInt = ((1 : ℕ) : Int) from rfl]
  iintro ⟨#HR, Hc, HO, #Hlev, Hat⟩ Hk
  iapply (Rounds.wp_wait_rest_token 𝒱₀ ER (Rd σ m) (c : Thread nD τ) none (κ := K (c, barX))
      (wpE_semWait_eq 𝒱₀ (c : Thread nD τ) none Set.univ) (Set.mem_univ _) () (O := owedFrom σ c 0) (W := W) (R := 0) (m := 0) (T := ∅)
      (by rw [show (Rd σ m).expect ((c : Thread nD τ), .reg barS) 0 = _ from expect_cell σ m c barX]; rfl)) $$ [Hc HO Hat]
  · isplitr; · iapply (records_inv σ m K (c, barX)); iexact HR
    isplitl [Hc]; · iexact Hc
    isplitl [HO]; · iexact HO
    isplitr; · iapply (mayWait_bar σ c); iexact Hlev
    iexact Hat
  iintro ⟨HO, Hat, -, Hpay⟩
  ihave Hout := (Entails.of_eq ((rest_cell σ m c barX).trans (pay_bar σ m c))) $$ Hpay
  imod (Rounds.cell_close ER (Rd σ m) (Set.mem_univ (K (c, barX))) (fun h => h) (R := 0 + 1) (duties_later σ m (barCell c))) $$ [Hat] with Hz
  · isplitr; · iapply (records_inv σ m K (c, barX)); iexact HR
    iexact Hat
  iapply Hk
  isplitl [HO]; · iexists _; iexact HO
  isplitl [Hout] <;> iassumption

/-! ## The staged operands -/

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

omit [FloatOps F] in
/-- The staged table is the whole table; -/
theorem read_tbl (T : (main_arg1 : Ref sig .tc).ty.Contents (Elt F)) : (win0_0.blk (0 : Fin 1)).view.read (Elt F) T = T := by
  funext i
  show T _ = T i
  refine congrArg T (funext fun a => Fin.ext ?_)
  fin_cases a
  show 0 + 1 * (i 0).val = (i 0).val
  omega
omit [FloatOps F] in
/-- the staged block the whole block. -/
theorem read_blk (X : (main_arg0 : Ref sig .tc).ty.Contents (Elt F)) : (win0_1.blk (0 : Fin 1)).view.read (Elt F) X = X := by
  funext i
  show X _ = X i
  refine congrArg X (funext fun a => Fin.ext ?_)
  fin_cases a
  · show 0 + 1 * (i 0).val = (i 0).val; omega
  · show 0 + 1 * (i 1).val = (i 1).val; omega
  · show 0 + 1 * (i 2).val = (i 2).val; omega

theorem before_tbl (c : Dev nD) (d) : (dats (F := F) σ m 0 c).before (0 : Fin 2) t₀ d = tblOf m c := by
  unfold Dat.before; rw [if_pos (fetch_0 t₀)]
  exact (show _ = (win0_0.blk (0 : Fin 1)).view.read (Elt F) (tblOf m c) from rfl).trans (read_tbl _)
theorem before_blk (c : Dev nD) (d) : (dats (F := F) σ m 0 c).before (1 : Fin 2) t₀ d = xOf m c := by
  unfold Dat.before; rw [if_pos (fetch_1 t₀)]
  exact (show _ = (win0_1.blk (0 : Fin 1)).view.read (Elt F) (xOf m c) from rfl).trans (read_blk _)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## From the handshake to the transfers, from them to the waits, from those to the end -/

omit [FloatOps F] in
/-- The send buffer, the peer's result and the rights to pay are the means of the eight transfers. -/
theorem sending_intro (c : Dev nD) :
    iprop((∃ f, bufPts c f) ∗ outPts (σ c) (outOf m (σ c)) ∗ (bigSep Finset.univ fun j : Fin 8 => dutyTok ER (sendCell c j) 0 ())
        ∗ (bigSep Finset.univ fun j : Fin 8 => dutyTok ER (recvCell (σ c) j) 0 ()) ∗ (∃ W, owes (c : Thread nD τ) (owedFrom σ c 0) W) ∗ xPts m c)
      ⊢ sending σ m c 0 := by
  unfold sending
  rw [geS_zero, ltS_zero, outPts_chunks]
  iintro ⟨⟨%f, Hb⟩, Hch, HtS, HtR, HO, Hx⟩
  ihave Hb := (Entails.of_eq (bufPts_slots c f)) $$ Hb
  isplitl [Hb Hch HtS HtR]
  · iapply (show iprop((bigSep Finset.univ fun j : Fin 8 => slotPts c j f) ∗ (bigSep Finset.univ fun j : Fin 8 => chunkPts (σ c) j (outOf m (σ c)))
        ∗ (bigSep Finset.univ fun j : Fin 8 => dutyTok ER (sendCell c j) 0 ()) ∗ (bigSep Finset.univ fun j : Fin 8 => dutyTok ER (recvCell (σ c) j) 0 ()))
        ⊢ (bigSep Finset.univ (sendRes σ m c) : sProp 𝕄) from by
      rw [← bigSep_sep', ← bigSep_sep', ← bigSep_sep']
      refine bigSep_mono fun j _ => ?_
      show _ ⊢ sendRes σ m c j
      unfold sendRes
      iintro ⟨H1, H2, H3, H4⟩
      isplitl [H1]; · iexists f; iexact H1
      isplitl [H2]; · iexact H2
      isplitl [H3] <;> iassumption)
    isplitl [Hb]; · iexact Hb
    isplitl [Hch]; · iexact Hch
    isplitl [HtS] <;> iassumption
  isplitr; · rw [BI.bigSep_empty]; iempintro
  isplitl [HO] <;> iassumption

omit [FloatOps F] in
/-- After the eight transfers: their send credits, nothing owed; with the receive credits and the positions, the means of
    the eight pairs of waits. -/
theorem waiting_intro (c : Dev nD) :
    iprop(sending σ m c 8 ∗ (bigSep Finset.univ fun j : Fin 8 => atPos ER (sendCell c j) 0 ∅ 0)
        ∗ (bigSep Finset.univ fun j : Fin 8 => atPos ER (recvCell c j) 0 ∅ 0) ∗ (bigSep Finset.univ fun j : Fin 8 => cred (tallyAt (recvCell c j) () N)))
      ⊢ iprop(waiting σ m c 0 ∗ xPts m c) := by
  unfold sending waiting
  rw [geS_eight, ltS_eight, geS_zero, ltS_zero, owedFrom_eight]
  iintro ⟨⟨-, HcS, HO, Hx⟩, HaS, HaR, HcR⟩
  isplitl [HcS HO HaS HaR HcR]
  · isplitl [HcS HaS HaR HcR]
    · iapply (show iprop(((bigSep Finset.univ fun j : Fin 8 => atPos ER (sendCell c j) 0 ∅ 0) ∗ (bigSep Finset.univ fun j : Fin 8 => atPos ER (recvCell c j) 0 ∅ 0))
          ∗ (bigSep Finset.univ fun j : Fin 8 => cred (tallyAt (sendCell c j) () N)) ∗ (bigSep Finset.univ fun j : Fin 8 => cred (tallyAt (recvCell c j) () N)))
          ⊢ (bigSep Finset.univ (waitRes c) : sProp 𝕄) from by
        rw [← bigSep_sep', ← bigSep_sep', ← bigSep_sep']
        exact bigSep_mono fun j _ => show _ ⊢ waitRes c j from by unfold waitRes; exact BI.Entails.refl _)
      isplitl [HaS HaR]
      · isplitl [HaS] <;> iassumption
      isplitl [HcS] <;> iassumption
    isplitr; · rw [BI.bigSep_empty]; iempintro
    iexact HO
  iexact Hx

omit [FloatOps F] in
/-- After the eight pairs of waits: the send buffer, the result at the received block, every transfer semaphore at zero. -/
theorem waiting_elim (c : Dev nD) :
    waiting σ m c 8 ⊢ iprop((bufPts c (packed (xOf m c)) ∗ outPts c (resOf σ m c))
      ∗ ((bigSep Finset.univ fun j : Fin 8 => semVal (sendCell c j) 0) ∗ (bigSep Finset.univ fun j : Fin 8 => semVal (recvCell c j) 0))
      ∗ ∃ W, owes (c : Thread nD τ) 0 W) := by
  unfold waiting
  rw [geS_eight, ltS_eight, bufPts_slots, outPts_chunks]
  iintro ⟨-, Hd, HO⟩
  ihave Hd := (show (bigSep Finset.univ (waitDone σ m c) : sProp 𝕄)
      ⊢ iprop(((bigSep Finset.univ fun j : Fin 8 => slotPts c j (packed (xOf m c))) ∗ (bigSep Finset.univ fun j : Fin 8 => chunkPts c j (resOf σ m c)))
        ∗ (bigSep Finset.univ fun j : Fin 8 => semVal (sendCell c j) 0) ∗ (bigSep Finset.univ fun j : Fin 8 => semVal (recvCell c j) 0)) from by
    rw [← bigSep_sep', ← bigSep_sep', ← bigSep_sep']
    exact bigSep_mono fun j _ => show waitDone σ m c j ⊢ _ from by unfold waitDone; exact BI.Entails.refl _) $$ Hd
  icases Hd with ⟨H1, H2⟩
  isplitl [H1]; · iexact H1
  isplitl [H2]; · iexact H2
  iexact HO

/-! ## The body -/

/-- What the body starts from: the protocol's part, the send buffer and the staged operands; -/
def bodyPre (c : Dev nD) : sProp 𝕄 :=
  iprop((ghost σ m K c
      ∗ (cred (tallyAt (barCell c) () 1) ∗ (bigSep Finset.univ fun j : Fin 8 => cred (tallyAt (recvCell c j) () N)))
      ∗ levAts L lv ∗ outPts c (outOf m c) ∗ ∃ f, bufPts c f)
    ∗ (dats σ m 0 c).owesAt () t₀.castSucc
    ∗ (∃ d, stg c cc0_stg0_0 ((dats σ m 0 c).before (0 : Fin 2) t₀ d))
    ∗ (∃ d, stg c cc0_stg1_0 ((dats σ m 0 c).before (1 : Fin 2) t₀ d)))

/-- and what it ends with. -/
def bodyPost (c : Dev nD) : sProp 𝕄 :=
  iprop(Φ₁ σ m c ∗ (dats σ m 0 c).owesAt () t₀.succ ∗ stg c cc0_stg0_0 (tblOf m c) ∗ stg c cc0_stg1_0 (xOf m c))

theorem pay_id : (k0_pay1 : Vec F S1x512x2048 .bf16 → Vec F S1x512x2048 .bf16) = fun v => v := funext pay_eq

set_option maxHeartbeats 1600000 in
/-- The body from `bodyPre` to `bodyPost`, where every device's table is the table of `σ`. -/
theorem sound_body (hT : ∀ c, tblOf m c = tableOf σ) (c : Dev nD) (Kt : PUnit → sProp 𝕄) :
    iprop(bodyPre σ m K c ∗ (bodyPost σ m c -∗ Kt ⟨⟩))
      ⊢ wp frame (wpE (defs₀ (F := F)) 𝒱₀ (c : Thread nD τ) none) Set.univ
          (cc0_body piM (Memref.isWhole_whole _) xM (Memref.isWhole_whole _) oM (Memref.isWhole_whole _) bM (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, smemLoad, smemLoadElt, Prog.lift, Prog.bind_op, Prog.bind_ret, Prog.pure_eq_ret, Prog.bind_assoc, wp_deviceId]
  unfold bodyPre ghost places payToks
  iintro ⟨⟨⟨⟨#HR, ⟨HaB, HaS, HaR⟩, HtB, HtS, HtR⟩, ⟨HcB, HcR⟩, #Hlev, Hout, Hbuf⟩,
    Ho, ⟨%d0, %g0, %hg0, Hp⟩, ⟨%d1, %g1, %hg1, Hx⟩⟩, Hk⟩
  rw [before_tbl] at hg0
  rw [before_blk] at hg1
  subst hg0 hg1
  rw [hT c]
  unfold Dat.owesAt Pipeline.owesWithin
  icases Ho with ⟨%W, %hW, HO⟩
  rw [show (dats σ m 0 c).owed t₀.castSucc = O₀ σ c from rfl]
  iapply (wp_load_rect 𝒱₀ (c : Thread nD τ) none Set.univ (m := piM) (r := Rect.unit (s := S8) (k0_off1 c) S1.size (k0_off1_inb c))
    (f := tableOf σ) (Finset.subset_univ _)) $$ Hp; iintro Hp
  rw [word_at (F := F) (tableOf σ) c _ (k0_off1_eq c), tableOf_at]
  simp only [wp_assume_of _ _ _ _ (d := k0_chk2.dec _) (chk2 σ c)]
  iapply (wp_find (F := F) σ c _ (own_eq c)) $$ [Hp]
  · unfold piPts; iexact Hp
  iintro Hp
  simp only [wp_assume_of _ _ _ _ (d := k0_chk1.dec _) (chk1 (σ.symm c))]
  iapply (wp_enter σ m K c _ (Fin.ext (dev1_eq (σ.symm c))) W) $$ [HO HtB Hout]
  · isplitr; · iexact HR
    isplitl [HO]; · iexact HO
    isplitl [HtB] <;> iassumption
  iintro HO
  iapply (wp_entered σ m K c W) $$ [HcB HO HaB]
  · isplitr; · iexact HR
    isplitl [HcB]; · iexact HcB
    isplitl [HO]; · iexact HO
    isplitr; · iexact Hlev
    iexact HaB
  iintro ⟨HO, Hpeer, HzB⟩
  ihave Hs := (sending_intro σ m c) $$ [Hbuf Hpeer HtS HtR HO Hx]
  · isplitl [Hbuf]; · iexact Hbuf
    isplitl [Hpeer]; · iexact Hpeer
    isplitl [HtS]; · iexact HtS
    isplitl [HtR]; · iexact HtR
    isplitl [HO]; · iexact HO
    unfold xPts; iexact Hx
  -- the eight transfers
  iapply (wp_chunk σ m K c _ 0 (Fin.ext (dev2_eq (σ c))) _ rfl _ _ rfl _ _ _ rfl rfl _ pay_id) $$ [Hs]
  · isplitr; · iexact HR
    iexact Hs
  iintro Hs
  iapply (wp_chunk σ m K c _ 1 (Fin.ext (dev2_eq (σ c))) _ rfl _ _ rfl _ _ _ rfl rfl _ pay_id) $$ [Hs]
  · isplitr; · iexact HR
    iexact Hs
  iintro Hs
  iapply (wp_chunk σ m K c _ 2 (Fin.ext (dev2_eq (σ c))) _ rfl _ _ rfl _ _ _ rfl rfl _ pay_id) $$ [Hs]
  · isplitr; · iexact HR
    iexact Hs
  iintro Hs
  iapply (wp_chunk σ m K c _ 3 (Fin.ext (dev2_eq (σ c))) _ rfl _ _ rfl _ _ _ rfl rfl _ pay_id) $$ [Hs]
  · isplitr; · iexact HR
    iexact Hs
  iintro Hs
  iapply (wp_chunk σ m K c _ 4 (Fin.ext (dev2_eq (σ c))) _ rfl _ _ rfl _ _ _ rfl rfl _ pay_id) $$ [Hs]
  · isplitr; · iexact HR
    iexact Hs
  iintro Hs
  iapply (wp_chunk σ m K c _ 5 (Fin.ext (dev2_eq (σ c))) _ rfl _ _ rfl _ _ _ rfl rfl _ pay_id) $$ [Hs]
  · isplitr; · iexact HR
    iexact Hs
  iintro Hs
  iapply (wp_chunk σ m K c _ 6 (Fin.ext (dev2_eq (σ c))) _ rfl _ _ rfl _ _ _ rfl rfl _ pay_id) $$ [Hs]
  · isplitr; · iexact HR
    iexact Hs
  iintro Hs
  iapply (wp_chunk σ m K c _ 7 (Fin.ext (dev2_eq (σ c))) _ rfl _ _ rfl _ _ _ rfl rfl _ pay_id) $$ [Hs]
  · isplitr; · iexact HR
    iexact Hs
  iintro Hs
  ihave Hw := (waiting_intro σ m c) $$ [Hs HaS HaR HcR]
  · isplitl [Hs]; · iexact Hs
    isplitl [HaS]; · iexact HaS
    isplitl [HaR] <;> iassumption
  icases Hw with ⟨Hw, Hx⟩
  -- the eight pairs of waits
  iapply (wp_waits σ m K c 0 _ rfl _ _ rfl _ _ _ rfl rfl) $$ [Hw]
  · isplitr; · iexact HR
    iexact Hw
  iintro Hw
  iapply (wp_waits σ m K c 1 _ rfl _ _ rfl _ _ _ rfl rfl) $$ [Hw]
  · isplitr; · iexact HR
    iexact Hw
  iintro Hw
  iapply (wp_waits σ m K c 2 _ rfl _ _ rfl _ _ _ rfl rfl) $$ [Hw]
  · isplitr; · iexact HR
    iexact Hw
  iintro Hw
  iapply (wp_waits σ m K c 3 _ rfl _ _ rfl _ _ _ rfl rfl) $$ [Hw]
  · isplitr; · iexact HR
    iexact Hw
  iintro Hw
  iapply (wp_waits σ m K c 4 _ rfl _ _ rfl _ _ _ rfl rfl) $$ [Hw]
  · isplitr; · iexact HR
    iexact Hw
  iintro Hw
  iapply (wp_waits σ m K c 5 _ rfl _ _ rfl _ _ _ rfl rfl) $$ [Hw]
  · isplitr; · iexact HR
    iexact Hw
  iintro Hw
  iapply (wp_waits σ m K c 6 _ rfl _ _ rfl _ _ _ rfl rfl) $$ [Hw]
  · isplitr; · iexact HR
    iexact Hw
  iintro Hw
  iapply (wp_waits σ m K c 7 _ rfl _ _ rfl _ _ _ rfl rfl) $$ [Hw]
  · isplitr; · iexact HR
    iexact Hw
  iintro Hw
  ihave Hw := (waiting_elim σ m c) $$ [Hw]
  · iexact Hw
  icases Hw with ⟨⟨Hbuf, Hres⟩, ⟨HzS, HzR⟩, ⟨%W', HO⟩⟩
  rw [wp_ret]; imodintro
  iapply Hk
  unfold bodyPost Φ₁ Dat.owesAt Pipeline.owesWithin
  rw [show (dats σ m 0 c).owed t₀.succ = 0 from rfl, hT c]
  isplitl [Hbuf Hres HzB HzS HzR]
  · isplitl [Hbuf]; · iexists _; iexact Hbuf
    isplitl [Hres]; · iexact Hres
    isplitl [HzB]; · iexact HzB
    isplitl [HzS] <;> iassumption
  isplitl [HO]
  · iexists W'
    isplitr; · ipureintro; exact fun _ _ => Or.inl trivial
    iexact HO
  isplitl [Hp]
  · iexists _; isplitr; · (ipureintro; rfl)
    unfold piPts; iexact Hp
  iexists _; isplitr; · (ipureintro; rfl)
  unfold xPts; iexact Hx

/-! ## The obligation of the launch -/

def bodyPre' (c : Dev nD) : sProp 𝕄 :=
  iprop(Φ₀ σ m c ∗ (dats σ m 0 c).owesAt () t₀.castSucc
    ∗ (∃ d, stg c cc0_stg0_0 ((dats σ m 0 c).before (0 : Fin 2) t₀ d))
    ∗ (∃ d, stg c cc0_stg1_0 ((dats σ m 0 c).before (1 : Fin 2) t₀ d)))

set_option maxRecDepth 4000 in
/-- The launch's obligation on device `c`. -/
theorem body_obligation (hT : ∀ c, tblOf m c = tableOf σ) (c : Dev nD) :
    BodyObligation (dats (F := F) σ m 0 c) (defs₀ (F := F)) 𝒱₀ () Set.univ := fun t => by
  rw [fin_N t]
  rw [bigSep_W, bigSep_W]
  simp only [owns_whole_eq]
  show bodyPre' σ m c ⊢ wp frame (wpE (defs₀ (F := F)) 𝒱₀ (c : Thread nD τ) none) Set.univ
    (cc0_body piM (Memref.isWhole_whole _) xM (Memref.isWhole_whole _) oM (Memref.isWhole_whole _) bM (Memref.isWhole_whole _) cc0_scratch1 cc0_scratch2)
    (fun _ => bodyPost σ m c)
  unfold bodyPre' Φ₀ start
  iintro ⟨⟨⟨⟨%K, Hg⟩, Hc, Hl, Hout⟩, Hbuf⟩, Ho, Hp, Hx⟩
  iapply (sound_body σ m K hT c fun _ => bodyPost σ m c)
  unfold bodyPre
  isplitr []
  · isplitl [Hg Hc Hl Hout Hbuf]
    · isplitl [Hg]; · iexact Hg
      isplitl [Hc]; · iexact Hc
      isplitl [Hl]; · iexact Hl
      isplitl [Hout] <;> iassumption
    isplitl [Ho]; · iexact Ho
    isplitl [Hp] <;> iassumption
  · iintro H; iexact H

end Cert.Shift

end
-- ==== Proof.Deal.lean ====
/-
  Setting the protocol up at the launch: from every semaphore at zero and the launch's ghost state, each device gets the
  records of all cells, its positions and the rights to the payments it makes (`glob`); and the credits of the payments
  made to it are what the devices owe at launch (`creds`).
-/
module

public import proofs.«01_k».proof.Proof.Body

@[expose] public section

noncomputable section

namespace Cert.Shift

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Dev nD ≃ Dev nD)
variable (m : (ℓ : Loc nD τ sig) → Buf (Elt F) ℓ)

/-! ## The cells of the exchange, and the rights minted for them -/

theorem csem_injective : Function.Injective csem := by decide
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]
def cellSet : Finset (GSem nD τ sig) := Finset.univ.map ⟨kcell, kcell_injective⟩

abbrev tokOf (ck : Dev nD × CIx) : GSem nD τ sig × ℕ × Unit := (kcell ck, 0, ())
theorem tokOf_injective : Function.Injective tokOf := fun _ _ h => kcell_injective (congrArg Prod.fst h)
def tokSet : Finset (GSem nD τ sig × ℕ × Unit) := Finset.univ.map ⟨tokOf, tokOf_injective⟩

/-- The launch's ghost element: the staging's and the exchange's. -/
def u₀ : UU :=
  (initOf (Pipeline.cells cfgs cellOf_inj) (Pipeline.launchToks cfgs cellOf_inj), initOf cellSet tokSet)

omit [FloatOps F] in
/-- A conjunction over a device's seventeen cells: its barrier, its eight send and its eight receive cells. -/
theorem bigSep_cells (Φ : CIx → sProp 𝕄) :
    bigSep Finset.univ Φ = iprop(Φ barX ∗ (bigSep Finset.univ fun j : Fin 8 => Φ (sendX j)) ∗ (bigSep Finset.univ fun j : Fin 8 => Φ (recvX j))) := by
  rw [BI.bigSep_univ_sum, BI.bigSep_univ_sum, show (Finset.univ : Finset Unit) = {()} from rfl, BI.bigSep_singleton]; rfl

/-- The rights to all payments of device `c`'s cells. -/
def toks (c : Dev nD) : sProp 𝕄 := bigSep Finset.univ fun k : CIx => dutyTok ER (kcell (c, k)) 0 ()

/-- What the ghost element gives for device `c`; -/
def G (c : Dev nD) : sProp 𝕄 :=
  iprop((bigSep Finset.univ fun k : CIx => roundState ER (Rd σ m) (kcell (c, k)) 0)
    ∗ (bigSep Finset.univ fun k : CIx => iprop(atPos ER (kcell (c, k)) 0 ∅ 0 ∗ reached ER (kcell (c, k)) 0)) ∗ toks c)
/-- and what device `c` starts with. -/
def G' (c : Dev nD) : sProp 𝕄 := iprop(∃ K, ghost σ m K c)

omit [FloatOps F] in
theorem fund_cells : BI.own (ER (initOf cellSet tokSet)) ⊢ (|==> bigSep Finset.univ (G σ m) : sProp 𝕄) := by
  have hX (Φ : GSem nD τ sig → sProp 𝕄) : bigSep cellSet Φ = bigSep Finset.univ fun c : Dev nD => bigSep Finset.univ fun k : CIx => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]; rfl
  iintro HX
  imod (Rounds.fund ER (Rd σ m) cellSet tokSet) $$ HX with ⟨Hst, Hr, Hat, Htok⟩
  imodintro
  ihave Hst := (Entails.of_eq (hX fun g => roundState ER (Rd σ m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

theorem ownSemFacts : Pipeline.OwnSemFacts cfg0.spec osem := by decide

omit [FloatOps F] in
/-- The transfer semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal (sendCell c j) 0) ∗ (bigSep Finset.univ fun j : Fin 8 => semVal (recvCell c j) 0)) := by
  unfold Pipeline.ownSems0
  rw [BI.bigSep_univ_sum]; rfl
omit [FloatOps F] in
/-- the barrier is the one that is not. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_cells (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cells]
  iintro ⟨HS, HB⟩
  isplitl [HB] <;> iassumption

omit [FloatOps F] in
/-- Each cell of device `c` becomes an invariant. -/
theorem cells_alloc (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun k : CIx => iprop(∃ κ : ℕ, cellInv ER (Rd σ m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_cells (F := F) c) $$ [Hos Hus]
  · isplitl [Hos] <;> iassumption
  imod (show iprop((bigSep Finset.univ fun k : CIx => semVal (kcell (c, k)) 0) ∗ bigSep Finset.univ fun k : CIx => roundState ER (Rd σ m) (kcell (c, k)) 0)
      ⊢ (|={Set.univ}=> bigSep Finset.univ fun k => iprop(∃ κ : ℕ, cellInv ER (Rd σ m) κ (kcell (c, k))) : sProp 𝕄) from by
        rw [← bigSep_sep']
        exact (bigSep_mono fun k _ => (Rounds.body_intro ER (Rd σ m) (kcell (c, k))).trans inv_alloc).trans (bigSep_fupd _ _)) $$ [Hv Hst] with Hinv
  · isplitl [Hv] <;> iassumption
  imodintro
  isplitl [Hinv]; · iexact Hinv
  isplitl [Hat] <;> iassumption

/-! ## The rights go to the devices that pay -/

omit [FloatOps F] in
/-- The right to pay a barrier goes against the permutation, the right to pay a receive cell along it. -/
theorem toks_around : (bigSep Finset.univ fun c : Dev nD => (toks c : sProp 𝕄)) ⊢ bigSep Finset.univ fun c : Dev nD => payToks σ c := by
  unfold toks payToks
  rw [BI.bigSep_congr (fun (c : Dev nD) _ => bigSep_cells fun k : CIx => (dutyTok ER (kcell (c, k)) 0 () : sProp 𝕄))]
  rw [bigSep_sep', bigSep_sep', bigSep_sep', bigSep_sep',
    bigSep_univ_equiv σ.symm (fun c : Dev nD => (dutyTok ER (kcell (c, barX)) 0 () : sProp 𝕄)),
    bigSep_univ_equiv σ (fun c : Dev nD => bigSep Finset.univ fun j : Fin 8 => (dutyTok ER (kcell (c, recvX j)) 0 () : sProp 𝕄))]

omit [FloatOps F] in
theorem ghost_intro (K : Dev nD × CIx → ℕ) (c : Dev nD) : iprop(records σ m K ∗ places c ∗ payToks σ c) ⊢ G' σ m c := by
  unfold G' ghost
  iintro H
  iexists K
  iexact H

omit [FloatOps F] in
theorem regroup :
    (bigSep Finset.univ fun c : Dev nD => iprop((bigSep Finset.univ fun k : CIx => iprop(∃ κ : ℕ, cellInv ER (Rd σ m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' σ m) := by
  rw [bigSep_sep', bigSep_sep', ← bigSep_univ_prod (fun ck : Dev nD × CIx => iprop(∃ κ : ℕ, cellInv ER (Rd σ m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄)),
    BI.bigSep_congr (fun (c : Dev nD) _ => bigSep_cells fun k : CIx => (atPos ER (kcell (c, k)) 0 ∅ 0 : sProp 𝕄))]
  iintro ⟨HI, ⟨Hat, #HR⟩, Htok⟩
  ihave HK := (BI.bigSep_exists_pi Finset.univ (fun (ck : Dev nD × CIx) (κ : ℕ) => (cellInv ER (Rd σ m) κ (kcell ck) : sProp 𝕄))) $$ HI
  icases HK with ⟨%K, #HI⟩
  ihave Htk := (toks_around (F := F) σ) $$ Htok
  iapply (BI.bigSep_with_persistent (R := records σ m K) fun c _ => ghost_intro σ m K c)
  isplitr
  · unfold records; isplitl; · iexact HI
    iexact HR
  · iapply (Entails.of_eq (bigSep_sep' Finset.univ (fun c : Dev nD => (places c : sProp 𝕄)) (payToks σ)).symm)
    isplitl [Hat]
    · iapply (show (bigSep Finset.univ fun c : Dev nD => iprop(atPos ER (kcell (c, barX)) 0 ∅ 0
          ∗ (bigSep Finset.univ fun j : Fin 8 => atPos ER (kcell (c, sendX j)) 0 ∅ 0) ∗ (bigSep Finset.univ fun j : Fin 8 => atPos ER (kcell (c, recvX j)) 0 ∅ 0)))
          ⊢ (bigSep Finset.univ fun c : Dev nD => (places c : sProp 𝕄)) from Entails.of_eq rfl)
      iexact Hat
    iexact Htk

omit [FloatOps F] in
/-- All devices at once. -/
theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => cells_alloc σ m c).trans (bigSep_fupd _ _)).trans (BI.fupd_mono (regroup σ m))

/-! ## The credits -/

theorem recvCell_ne_bar (d c : Dev nD) (j : Fin 8) : recvCell d j ≠ barCell c := fun h => by cases congrArg Prod.snd h
theorem recvCell_inj {d c : Dev nD} {i j : Fin 8} (h : recvCell d i = recvCell c j) : d = c ∧ i = j := by
  have hk : ((d, recvX i) : Dev nD × CIx) = (c, recvX j) := kcell_injective h
  exact ⟨congrArg Prod.fst hk, by have := congrArg Prod.snd hk; simpa using this⟩
theorem barCell_inj {d c : Dev nD} (h : barCell d = barCell c) : d = c := congrArg (fun g : GSem nD τ sig => g.1.1) h

/-- Device `d` owes the barrier of `c` one unit if `d` is the destination of `c`; -/
theorem owed_bar (d c : Dev nD) : O₀ σ d (barCell c) () = if d = σ c then 1 else 0 := by
  unfold O₀
  rw [Pi.add_apply, Finsupp.add_apply, owedFrom_apply, Finset.sum_eq_zero fun j _ => by
    rw [tallyAt_apply, if_neg fun h => recvCell_ne_bar _ _ _ h.1.symm], Nat.zero_add, tallyAt_apply]
  by_cases h : d = σ c
  · subst h; rw [Equiv.symm_apply_apply, if_pos ⟨rfl, rfl⟩, if_pos rfl]
  · rw [if_neg (fun h' => h (by rw [barCell_inj h'.1, Equiv.apply_symm_apply])), if_neg h]

/-- and a receive cell of `c` its bytes if `c` is the destination of `d`. -/
theorem owed_recv (d c : Dev nD) (j : Fin 8) : O₀ σ d (recvCell c j) () = if d = σ.symm c then N else 0 := by
  unfold O₀
  rw [Pi.add_apply, Finsupp.add_apply, tallyAt_ne_cell (fun h => recvCell_ne_bar _ _ _ h), Finsupp.zero_apply, Nat.add_zero, owedFrom_apply, geS_zero]
  by_cases h : d = σ.symm c
  · subst h
    rw [Equiv.apply_symm_apply, if_pos rfl, Finset.sum_eq_single j]
    · rw [tallyAt_apply, if_pos ⟨rfl, rfl⟩]
    · intro i _ hi; rw [tallyAt_apply, if_neg fun h' => hi (recvCell_inj h'.1).2.symm]
    · exact fun h' => absurd (Finset.mem_univ j) h'
  · rw [if_neg h]
    exact Finset.sum_eq_zero fun i _ => by
      rw [tallyAt_apply, if_neg fun h' => h (by rw [(recvCell_inj h'.1).1, Equiv.symm_apply_apply])]

theorem launch_bar (c : Dev nD) :
    tallyOn (barCell c) (launchCredit (Pipeline.owing (O₀ σ)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar σ d c,
    Finset.sum_ite_eq' Finset.univ (σ c) fun _ => 1, if_pos (Finset.mem_univ _)]
theorem launch_recv (c : Dev nD) (j : Fin 8) :
    tallyOn (recvCell c j) (launchCredit (Pipeline.owing (O₀ σ)) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv σ d c j,
    Finset.sum_ite_eq' Finset.univ (σ.symm c) fun _ => N, if_pos (Finset.mem_univ _)]

omit [FloatOps F] in
/-- The credits of the payments made to device `c`. -/
theorem creds (c : Dev nD) :
    (Pipeline.launchCred (O₀ σ) c : sProp 𝕄)
      ⊢ iprop(cred (tallyAt (barCell c) () 1) ∗ (bigSep Finset.univ fun j : Fin 8 => cred (tallyAt (recvCell c j) () N))) := by
  have hinj : Function.Injective fun j : Fin 8 => (SemLoc.dma (recvS j) : SemLoc sig) := by decide
  unfold Pipeline.launchCred
  rw [bigSep_univ_at _ (SemLoc.reg barS), launch_bar]
  refine sep_mono_right ?_
  refine (BI.bigSep_subset (t := Finset.univ.map ⟨_, hinj⟩) (fun s hs => ?_)).trans ?_
  · obtain ⟨j, _, rfl⟩ := Finset.mem_map.mp hs
    exact Finset.mem_erase.mpr ⟨(nofun : (SemLoc.dma (recvS j) : SemLoc sig) ≠ .reg barS), Finset.mem_univ _⟩
  · rw [BI.bigSep_map]
    exact Entails.of_eq (BI.bigSep_congr fun j _ => congrArg _ (launch_recv σ c j))

end Cert.Shift

end
-- ==== Proof.Run.lean ====
/-
  The run of the kernel on the mesh, for any float values and any permutation `σ`: where every device's table is the
  table of `σ`, every execution ends, each device's result is the block of device `σ⁻¹ c`, the operands are unchanged and
  every semaphore is at zero.
-/
module

public import proofs.«01_k».proof.Proof.Deal
public import Idealize.ShloMosaic.Lib.Pipeline.CollectiveSegs

@[expose] public section

noncomputable section

namespace Cert.Shift

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Dev nD ≃ Dev nD)
variable (m : (ℓ : Loc nD τ sig) → Buf (Elt F) ℓ)
variable (ρ : Dev nD → PrngReg)

/-! ## Entering and leaving the body -/

theorem share_eq (c : Dev nD) (w : Fin cfg0.W) : (dats σ m 0 c).share w = fullShare := by unfold Dat.share; split <;> rfl

omit [FloatOps F] in
/-- What the launch gives device `c` is what its body starts from: the result buffer is its one array that is not staged. -/
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m c)
      ⊢ |={Set.univ}=> iprop(start σ m c ∗ emp) := by
  rw [Pipeline.unscopedRestP_none]
  rw [show Pipeline.unscopedRest cfg0.spec c (fun b => m ((c : Thread nD τ).loc b)) = (outPts c (outOf m c) : sProp 𝕄) from unscopedRest0_eq c _]
  iintro ⟨Hout, Hlev, Hcr, -, HG⟩
  ihave Hc := (creds (F := F) σ c) $$ Hcr
  imodintro
  unfold start G'
  isplitl
  · isplitl [HG]; · iexact HG
    isplitl [Hc]; · iexact Hc
    isplitl [Hlev] <;> iassumption
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = Φ₀ σ m c from rfl, scopedRest0_eq]
  unfold Φ₀ bufPts
  iintro ⟨Hs, -, Hr⟩
  isplitl [Hs]; · iexact Hs
  iexact Hr

/-- What is kept of a device at the end: its barrier at zero and its result. -/
def kept (c : Dev nD) : sProp 𝕄 := iprop(unscopedSems0 c ∗ outPts c (resOf σ m c))

theorem phi1_exit (c : Dev nD) :
    (dats σ m 0 c).Φ (Fin.last cfg0.N) ⊢ iprop(kept σ m c ∗ Pipeline.ownSems0 osem c ∗ Pipeline.scopedRest cfg0.spec c) := by
  rw [show (dats σ m 0 c).Φ (Fin.last cfg0.N) = Φ₁ σ m c from rfl, scopedRest0_eq, ownSems0_eq]
  unfold Φ₁ kept bufPts
  rw [unscopedSems0_eq]
  iintro ⟨Hr, Hout, HzB, HzS, HzR⟩
  isplitl [HzB Hout]
  · isplitl [HzB] <;> iassumption
  isplitl [HzS HzR]
  · isplitl [HzS] <;> iassumption
  iexact Hr

theorem waits (c : Dev nD) : (levAts L lv : sProp 𝕄) ⊢ Pipeline.cellsWaits cfgs (dats σ m) () 0 c :=
  Pipeline.cellsWaits_intro cfgs (dats σ m) () 0 c fun w s t =>
    mayWait_stage σ c _ (by fin_cases w <;> fin_cases s <;> decide) _ (by
      rcases t with ⟨_ | _, ht⟩
      · exact Or.inl rfl
      · exact Or.inr rfl)

/-! ## The run -/

/-- What the last state holds. -/
def Final : PUnit × MemSt nD τ sig (Elt F) → Prop := fun r =>
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = resOf σ m c)
    ∧ r.2.sem = fun _ => 0

set_option maxRecDepth 8000 in
theorem run_main (hT : ∀ c, tblOf m c = tableOf σ) :
    θ_run defs (onTc (τ := τ) (main (F := F))) ⟨m, fun _ => 0, ρ⟩ (Final σ m) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := body_obligation σ m hT) (hne := fun w => by fin_cases w <;> exact Nat.succ_pos _) (harr := arr_whole0) (hstage := stage_whole0)
    (hshare := share_eq σ m) (hdistinct := winFacts0.arr_inj)
    (O₀ := O₀ σ) (howed₀ := fun _ => rfl) (howedN := fun _ => rfl)
    (L := L) (lv := lv) (hL := L_of_ne) (hwaits := waits σ m)
    (G := G σ m) (G' := G' σ m) (u₀ := u₀)
    (hu₀ := by
      unfold u₀
      iintro Hu
      ihave H := (ownU_pair _ _) $$ Hu
      icases H with ⟨HP, HX⟩
      imod (fund_cells σ m) $$ HX with HG
      imodintro
      isplitl [HP] <;> iassumption)
    (hglob := glob σ m)
    (hA := fun _ _ => rfl) (hpf := fun _ k => k.elim0)
    (X := start σ m) (Y := kept σ m) (Z := fun _ => iprop(emp))
    (hX := start_intro σ m ρ) (hin := phi0_intro σ m) (hout := phi1_exit σ m)
    (QY := fun c s => s.mem ((c : Thread nD τ).loc main_v1) = resOf σ m c
      ∧ ∀ sm : SemLoc sig, sm.isScoped .tc = false → s.sem ((c.tc : Thread nD τ), sm) = 0)
    (hY := fun c s' => by
      unfold kept outPts
      iintro ⟨⟨Hu, Hout⟩, -, HSI⟩
      icombine HSI Hout gives %h
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ h, hz⟩
      iexact HSI)
    (hQ := fun _ h hs => ⟨fun c => ⟨((h c).1 (1 : Fin 2)).trans ((dats (F := F) σ m 0 c).arrAt_in (1 : Fin 2) rfl _),
        ((h c).1 (0 : Fin 2)).trans ((dats (F := F) σ m 0 c).arrAt_in (0 : Fin 2) rfl _), (h c).2.2.1⟩,
      sem_eq_zero hs fun c => (h c).2.2.2⟩)

end Cert.Shift

end
-- ==== Proof.Rolls.lean ====
/-
  The seven tables a precondition names. `roll k` sends device `c` to device `c - k` around the ring of eight; a device
  whose table passes the comparison of the `k`-th precondition holds the table of that permutation (`pinned`).
-/
module

public import proofs.«01_k».proof.Proof.Find

@[expose] public section

noncomputable section

namespace Cert.Shift

open Cert.KernelIdeal Cert.KernelIdeal.Gen
open Idealize.ShloMosaic

/-- Device `c` sends to device `c - k`, counted around the ring. -/
def roll (k : Fin 8) : Dev nD ≃ Dev nD where
  toFun (c : Fin 8) := c - k
  invFun (c : Fin 8) := c + k
  left_inv c := by revert k c; decide
  right_inv c := by revert k c; decide

/-- The remainder of a word by eight as the array library computes it: the sign of the divisor, by the sign of the
    dividend's own remainder. -/
def mod8 (a : BitVec 32) : BitVec 32 :=
  let d := Scalar.select (IntOp.cmpi .eq 8#32 0#32) 1#32 8#32
  let r := IntOp.remsi .host a d
  Scalar.select (IntOp.andi (IntOp.cmpi .ne (IntOp.cmpi .slt r 0#32) (IntOp.cmpi .slt d 0#32)) (IntOp.cmpi .ne r 0#32)) (IntOp.addi r d) r

/-- The table a precondition compares with: word `c` is `(c + w) mod 8`. -/
def rolledTable (w : BitVec 32) : IVec S8 32 := fun i => mod8 (IntOp.addi (BitVec.ofNat 32 (i 0).val) w)

theorem mod8_roll (k c : Fin 8) :
    mod8 (IntOp.addi (BitVec.ofNat 32 c.val) (BitVec.ofNat 32 (8 - k.val))) = BitVec.ofNat 32 ((roll k : Fin 8 ≃ Fin 8) c).val := by
  revert k c; decide

/-- That table is the table of `roll k`. -/
theorem rolledTable_eq (k : Fin 8) : rolledTable (BitVec.ofNat 32 (8 - k.val)) = tableOf (roll k) :=
  funext fun i => mod8_roll k ⟨(i 0).val, (i 0).isLt⟩

/-- A comparison that is one everywhere compares equal arrays. -/
theorem eq_of_all_ones {s : Shape} {w : Nat} {x y : IVec s w} (h : cmpi .eq x y = fun _ => 1#1) : x = y := by
  funext i
  have hi : BitVec.ofBool (x i == y i) = 1#1 := congrFun h i
  cases hb : x i == y i
  · rw [hb] at hi; exact absurd hi (by decide)
  · exact eq_of_beq hb

/-- A table that passes the `k`-th comparison is the table of `roll k`. -/
theorem pinned (k : Fin 8) {T : IVec S8 32} (h : cmpi .eq T (rolledTable (BitVec.ofNat 32 (8 - k.val))) = fun _ => 1#1) :
    T = tableOf (roll k) := (eq_of_all_ones h).trans (rolledTable_eq k)

end Cert.Shift

end
-- ==== Proof.Ref.lean ====
/-
  The reference read: it sorts the table carrying the positions, which for the table of a permutation `σ` gives the table
  of `σ⁻¹`; it brings negative entries into range, of which there are none; it takes the rows of `x` the result names; and
  its two conversions of floats change nothing over the extended reals. So block `c` of its result is block `σ⁻¹ c` of `x`.
-/
module

public import proofs.«01_k».proof.Proof.Find
public import proofs.«01_k».proof.Proof.Gen.ReferenceIdeal.Run
public import Idealize.ShloMosaic.Lib.Routing.SortLink
public import Idealize.ShloMosaic.Lib.Layout
public import Idealize.ShloMosaic.PureOps.Ideal

@[expose] public section

noncomputable section

namespace Cert.Shift

open Cert.ReferenceIdeal Cert.ReferenceIdeal.Gen
open Idealize.ShloMosaic

variable (σ : Fin 8 ≃ Fin 8)

/-- The table of `σ` as the reference reads it: the devices are the numbers below eight. -/
abbrev tbl : S8.Idx → BitVec 32 := tableOf σ

/-! ## The sort -/

/-- Two numbers below eight compare as words as they do as numbers. -/
theorem word_slt (a b : Fin 8) : (IntOp.cmpi .slt (BitVec.ofNat 32 a.val) (BitVec.ofNat 32 b.val) == 1#1) = decide (a.val < b.val) := by
  revert a b; decide

/-- Sorting by the values of `σ` puts `σ⁻¹ r` at position `r`. -/
theorem sortedFrom_perm (r : Fin 8) : sortedFrom (fun a b : Fin 8 => decide ((σ a).val < (σ b).val)) r = σ.symm r := by
  have hperm : ((List.finRange 8).map σ.symm).Perm (List.finRange 8) := by
    refine (List.perm_ext_iff_of_nodup ((List.nodup_finRange 8).map σ.symm.injective) (List.nodup_finRange 8)).mpr fun a => ?_
    exact ⟨fun _ => List.mem_finRange a, fun _ => List.mem_map.mpr ⟨σ a, List.mem_finRange _, σ.symm_apply_apply a⟩⟩
  have hs : ((List.finRange 8).map σ.symm).Pairwise fun a b => (σ a).val < (σ b).val := by
    rw [List.pairwise_map]
    simp only [Equiv.apply_symm_apply]
    decide
  have hlen : r.val < ((List.finRange 8).map σ.symm).length := by rw [List.length_map, List.length_finRange]; exact r.isLt
  rw [Routing.sortedFrom_eq (fun a => (σ a).val) (fun a b h => σ.injective (Fin.ext h)) _ hperm hs r hlen]
  simp only [List.getElem_map, List.getElem_finRange, Fin.eta]
  rfl

/-- The positions of the sorted table are the table of `σ⁻¹`. -/
theorem argsort_eq : (Host.sort2 S8 0 comparator_i32_i32_d0 (tbl σ) (iotaInDim S8 32 0)).2 = tbl σ.symm := by
  unfold Host.sort2
  rw [dif_pos (show 0 < S8.rank from Nat.zero_lt_one)]
  funext j
  have hb : ∀ a b : Fin 8,
      (comparator_i32_i32_d0 (tbl σ (j.along (0 : Fin S8.rank) a), iotaInDim S8 32 0 (j.along (0 : Fin S8.rank) a))
        (tbl σ (j.along (0 : Fin S8.rank) b), iotaInDim S8 32 0 (j.along (0 : Fin S8.rank) b)) == 1#1) = decide ((σ a).val < (σ b).val) := by
    intro a b
    rw [← word_slt (σ a) (σ b)]
    have e : ∀ k : Fin 8, tbl σ (j.along (0 : Fin S8.rank) k) = BitVec.ofNat 32 (σ k).val := fun k => rfl
    show (IntOp.cmpi .slt (tbl σ (j.along (0 : Fin S8.rank) a)) (tbl σ (j.along (0 : Fin S8.rank) b)) == 1#1) = _
    rw [e, e]
  show BitVec.ofNat 32 ((j.along (0 : Fin S8.rank) (sortedFrom (n := 8) (fun a b : Fin 8 =>
      comparator_i32_i32_d0 (tbl σ (j.along (0 : Fin S8.rank) a), iotaInDim S8 32 0 (j.along (0 : Fin S8.rank) a))
        (tbl σ (j.along (0 : Fin S8.rank) b), iotaInDim S8 32 0 (j.along (0 : Fin S8.rank) b)) == 1#1) (j 0))) 0).val = _
  rw [show (fun a b : Fin 8 => comparator_i32_i32_d0 (tbl σ (j.along (0 : Fin S8.rank) a), iotaInDim S8 32 0 (j.along (0 : Fin S8.rank) a))
        (tbl σ (j.along (0 : Fin S8.rank) b), iotaInDim S8 32 0 (j.along (0 : Fin S8.rank) b)) == 1#1)
      = fun a b => decide ((σ a).val < (σ b).val) from funext fun a => funext fun b => hb a b]
  rw [show sortedFrom (fun a b : Fin 8 => decide ((σ a).val < (σ b).val)) (j 0) = σ.symm (j 0) from sortedFrom_perm σ (j 0)]
  exact congrArg (fun k : Fin 8 => BitVec.ofNat 32 k.val) (Function.update_self ..)

/-! ## The index brought into range -/

theorem word_ranged (a : Fin 8) :
    Scalar.select (IntOp.cmpi .slt (BitVec.ofNat 32 a.val) 0#32) (IntOp.addi (BitVec.ofNat 32 a.val) 8#32) (BitVec.ofNat 32 a.val)
      = BitVec.ofNat 32 a.val := by
  revert a; decide

/-- No entry of a permutation's table is negative, so none is moved. -/
theorem ranged (zero eight : IVec S8 32) (h0 : ∀ i, zero i = 0#32) (h8 : ∀ i, eight i = 8#32) :
    select (cmpi .slt (tbl σ) zero) (addi (tbl σ) eight) (tbl σ) = tbl σ := by
  funext i
  show Scalar.select (IntOp.cmpi .slt (tbl σ i) (zero i)) (IntOp.addi (tbl σ i) (eight i)) (tbl σ i) = tbl σ i
  rw [h0, h8]
  exact word_ranged (σ ⟨(i 0).val, (i 0).isLt⟩)

/-! ## The rows taken -/

theorem word_row (a : Fin 8) : min (BitVec.ofNat 32 a.val).toInt.toNat (8 - 1) = a.val := by revert a; decide

/-- The dimension numbers of the row gather. -/
abbrev rowDims : GatherDims S8x4096x2048 S8x1 S8x4096x2048 := gather_S8x4096x2048_S8x1_S8x4096x2048_12_0_n_n_0_1_140962048

/-- Taking rows by the table of `σ`: row `r` of the result is row `σ r`. -/
theorem rows_taken {α : Type} (x : S8x4096x2048.Idx → α) (r : Fin 8) (i : S8x4096x2048.Idx) (hi : (i 0).val = r.val)
    (i' : S8x4096x2048.Idx) (h0 : (i' 0).val = (σ r).val) (h1 : (i' 1).val = (i 1).val) (h2 : (i' 2).val = (i 2).val) :
    Host.gather rowDims x (broadcastInDim S8x1 ![0] bcast_S8_S8x1_0 (tbl σ)) i = x i' := by
  unfold Host.gather
  congr 1
  funext a
  refine Fin.ext ?_
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  show rowDims.start i _ a + rowDims.batchCoord i a + rowDims.offCoord i a = _
  rw [GatherDims.batchCoord_eq_zero _ _ _ List.not_mem_nil, Nat.add_zero]
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ rowDims.startIndexMap from List.mem_singleton.mpr rfl)]
    refine Eq.trans ?_ h0.symm
    refine Eq.trans ?_ (word_row (σ r))
    have hv : ∀ q : S8x1.Idx, (q 0).val = (i 0).val → broadcastInDim S8x1 ![0] bcast_S8_S8x1_0 (tbl σ) q = BitVec.ofNat 32 (σ r).val := by
      intro q hq
      show BitVec.ofNat 32 (σ ⟨(q 0).val, _⟩).val = _
      exact congrArg (fun k : Fin 8 => BitVec.ofNat 32 (σ k).val) (Fin.ext (hq.trans hi))
    exact congrArg (fun w : BitVec 32 => min w.toInt.toNat (8 - 1)) (hv _ rfl)
  · refine Eq.trans ?_ h1.symm
    exact Nat.zero_add _
  · refine Eq.trans ?_ h2.symm
    exact Nat.zero_add _

/-! ## The result -/

/-- What the reference leaves, as a function of its two arguments. -/
def refOut (x : S8x4096x2048.Idx → Elt Ideal .bf16) (T : IVec S8 32) : S8x4096x2048.Idx → Elt Ideal .bf16 :=
  let order := (Host.sort2 S8 0 comparator_i32_i32_d0 T (iotaInDim S8 32 0)).2
  truncf (F := Ideal) .bf16 (extf (F := Ideal) .f32 (Host.gather rowDims x (broadcastInDim S8x1 ![0] bcast_S8_S8x1_0
    (select (cmpi .slt order (broadcastInDim S8 ![] bcast_S_S8 (constantI S_ 32 0#32)))
      (addi order (broadcastInDim S8 ![] bcast_S_S8 (constantI S_ 32 8#32))) order))) bitsLt_bf16_f32) bitsLt_bf16_f32

/-- Block `d`'s element is in row `d` of the whole array; -/
theorem block_row (h : Layout.Tiles ⟨3, ![1, 4096, 2048]⟩ S8x4096x2048 0 8) (d : Fin 8) (i : Shape.Idx ⟨3, ![1, 4096, 2048]⟩) :
    (h.idx d i (0 : Fin 3)).val = d.val := by
  have hz : (i (0 : Fin 3)).val < 1 := (i (0 : Fin 3)).isLt
  show d.val * 1 + (i (0 : Fin 3)).val = d.val
  omega
/-- and at its own coordinate on the other axes. -/
theorem block_col (h : Layout.Tiles ⟨3, ![1, 4096, 2048]⟩ S8x4096x2048 0 8) (d : Fin 8) (i : Shape.Idx ⟨3, ![1, 4096, 2048]⟩)
    (a : Fin 3) (ha : a.val ≠ 0) : (h.idx d i a).val = (i a).val := if_neg ha

/-- Block `c` of the reference's result is block `σ⁻¹ c` of its `x`. -/
theorem refOut_block (x : S8x4096x2048.Idx → Elt Ideal .bf16) (c : Fin 8) :
    Layout.block ⟨3, ![1, 4096, 2048]⟩ ⟨3, ![8, 4096, 2048]⟩ 0 8 c (refOut x (tbl σ))
      = Layout.block ⟨3, ![1, 4096, 2048]⟩ ⟨3, ![8, 4096, 2048]⟩ 0 8 (σ.symm c) x := by
  unfold refOut
  dsimp only
  rw [argsort_eq, ranged σ.symm (broadcastInDim S8 ![] bcast_S_S8 (constantI S_ 32 0#32))
    (broadcastInDim S8 ![] bcast_S_S8 (constantI S_ 32 8#32)) (fun _ => rfl) (fun _ => rfl)]
  funext i
  rw [Layout.block_apply, Layout.block_apply]
  exact rows_taken σ.symm x c _ (block_row _ c i) _ (block_row _ _ i) ((block_col _ _ i 1 (by decide)).trans (block_col _ _ i 1 (by decide)).symm)
    ((block_col _ _ i 2 (by decide)).trans (block_col _ _ i 2 (by decide)).symm)

end Cert.Shift

end
-- ==== Proof.Same.lean ====
/-
  The program over the machine's floats and its idealization are printed apart, with the same text. So their body tables
  are equal, which lets one proof of a run speak of both.
-/
module

public import proofs.«01_k».proof.Proof.Gen.Kernel
public import proofs.«01_k».proof.Proof.Gen.KernelIdeal
public import Idealize.ShloMosaic.Adequacy
public import Idealize.ShloMosaic.Init

@[expose] public section

noncomputable section

namespace Cert.Shift

open Idealize.ShloMosaic Idealize.SL.Sem

variable {F : FTy → Type} [FloatOps F]

set_option maxRecDepth 10000 in
set_option maxHeartbeats 1000000 in
/-- The kernel's body is the same in both; -/
theorem body_same (a0 h0 a1 h1 a2 h2 a3 h3 a4 a5) :
    Cert.Kernel.cc0_body (F := F) a0 h0 a1 h1 a2 h2 a3 h3 a4 a5 = Cert.KernelIdeal.cc0_body (F := F) a0 h0 a1 h1 a2 h2 a3 h3 a4 a5 := rfl

/-- so is what each processor runs for each label; -/
theorem kernels_same (p : Proc Cert.KernelIdeal.τ) : Cert.Kernel.defs₀ (F := F) p = Cert.KernelIdeal.defs₀ (F := F) p := by
  cases p with
  | tc =>
    funext l a
    match l, a with
    | 0, (t, s) => exact body_same ..
    | ⟨_ + 1, h⟩, _ => exact absurd h (Nat.not_lt.2 (Nat.le_add_left _ _))
  | _ => rfl

/-- and so is the whole table, with the pipeline around the kernel. -/
theorem tables_same :
    (fun p => Cert.Kernel.defs (F := F) p : Defs Cert.KernelIdeal.nD Cert.KernelIdeal.τ Cert.KernelIdeal.sig (Elt F)
        (Pipeline.Sig Cert.KernelIdeal.Λ₀ (Fin 1) fun p => (Cert.KernelIdeal.pcfgs (F := F) p).Adm))
      = fun p => Cert.KernelIdeal.defs (F := F) p := by
  have h0 : (fun p => Cert.Kernel.defs₀ (F := F) p : Defs Cert.KernelIdeal.nD Cert.KernelIdeal.τ Cert.KernelIdeal.sig (Elt F) Cert.KernelIdeal.Λ₀)
      = fun p => Cert.KernelIdeal.defs₀ (F := F) p := funext kernels_same
  exact congrArg (fun D : Defs Cert.KernelIdeal.nD Cert.KernelIdeal.τ Cert.KernelIdeal.sig (Elt F) Cert.KernelIdeal.Λ₀ =>
    (Pipeline.defs Cert.KernelIdeal.pcfgs D : Defs _ _ _ _ _)) h0

end Cert.Shift

end
-- ==== Proof.Ends.lean ====
/-
  The claims, each from one lemma over any permutation `σ`: the kernel ends with its arguments unchanged and every
  semaphore at zero, over the machine's floats and over the extended reals; the reference likewise from any memory; and
  the two results agree block by block.
-/
module

public import proofs.«01_k».proof.Proof.Run
public import proofs.«01_k».proof.Proof.Rolls
public import proofs.«01_k».proof.Proof.Ref
public import proofs.«01_k».proof.Proof.Same
public import proofs.«01_k».proof.Defs
public import Idealize.ShloMosaic.Lib.Quiescent

@[expose] public section

noncomputable section

namespace Cert.Shift

open Idealize.ShloMosaic Idealize.ShloMosaic.TcCoe Idealize.SL.Sem

variable (σ : Dev Cert.KernelIdeal.nD ≃ Dev Cert.KernelIdeal.nD)

/-! ## The kernel -/

/-- The kernel's arguments end as they began and its counters at zero, for any float values. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) (hT : ∀ c, tblOf m c = tableOf σ) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main σ m ρ hT)

/-- The same of the program over the machine's floats, whose text is the same. -/
theorem frame_bits (m : (ℓ : Loc Cert.Kernel.nD Cert.Kernel.τ Cert.Kernel.sig) → Buf (Elt Bits) ℓ)
    (ρ : Dev Cert.Kernel.nD → PrngReg)
    (hT : ∀ c : Dev Cert.Kernel.nD, m ((c : Thread Cert.Kernel.nD Cert.Kernel.τ).loc Cert.Kernel.main_arg1) = tableOf σ) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
      ∧ r.2.sem = fun _ => 0) := by
  have h := frame_any (F := Bits) σ m ρ hT
  rw [show Cert.KernelIdeal.defs (F := Bits) = Cert.Kernel.defs (F := Bits) from (tables_same (F := Bits)).symm] at h
  exact h

/-! ## The reference -/

abbrev RefMem := (ℓ : Loc Cert.ReferenceIdeal.nD Cert.ReferenceIdeal.τ Cert.ReferenceIdeal.sig) → Buf (Elt Ideal) ℓ

/-- The reference's run, its result named. -/
theorem ref_run (m : RefMem) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v9)
            = refOut (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  Cert.ReferenceIdeal.Value.run (F := Ideal) m ρ

/-- It leaves its arguments as they were, and there is no counter it could move. -/
theorem ref_frame (m : RefMem) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems rfl r.2⟩) (ref_run m ρ)

/-! ## The two together -/

/-- Where every device holds its block of `x` and the table of `σ`, the kernel's result on device `c` is block `c` of the
    reference's result. -/
theorem agree (m : (ℓ : Loc Cert.KernelIdeal.nD Cert.KernelIdeal.τ Cert.KernelIdeal.sig) → Buf (Elt Ideal) ℓ)
    (ρ : Dev Cert.KernelIdeal.nD → PrngReg) (m' : RefMem) (ρ' : Dev Cert.ReferenceIdeal.nD → PrngReg)
    (hT : ∀ c, tblOf m c = tableOf σ)
    (hm : ∀ c : Dev Cert.KernelIdeal.nD,
      xOf m c = Layout.block ⟨3, ![1, 4096, 2048]⟩ ⟨3, ![8, 4096, 2048]⟩ 0 8 c
          (m' (((0 : Dev Cert.ReferenceIdeal.nD).tc : Thread Cert.ReferenceIdeal.nD Cert.ReferenceIdeal.τ).loc Cert.ReferenceIdeal.main_arg0))
      ∧ tblOf m c = m' (((0 : Dev Cert.ReferenceIdeal.nD).tc : Thread Cert.ReferenceIdeal.nD Cert.ReferenceIdeal.τ).loc Cert.ReferenceIdeal.main_arg1)) :
    ∃ v0 : Buf (Elt Ideal) (((0 : Dev Cert.ReferenceIdeal.nD).tc : Thread Cert.ReferenceIdeal.nD Cert.ReferenceIdeal.τ).loc Cert.ReferenceIdeal.main_v9),
      θ_run (Cert.KernelIdeal.defs (F := Ideal)) (onTc (τ := Cert.KernelIdeal.τ) (Cert.KernelIdeal.main (F := Ideal))) ⟨m, fun _ => 0, ρ⟩ (fun r =>
        ∀ c : Dev Cert.KernelIdeal.nD,
          r.2.mem ((c.tc : Thread Cert.KernelIdeal.nD Cert.KernelIdeal.τ).loc Cert.KernelIdeal.main_v1)
              = Layout.block ⟨3, ![1, 4096, 2048]⟩ ⟨3, ![8, 4096, 2048]⟩ 0 8 c v0
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0)
              = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
              = m' (((0 : Dev Cert.ReferenceIdeal.nD).tc : Thread Cert.ReferenceIdeal.nD Cert.ReferenceIdeal.τ).loc Cert.ReferenceIdeal.main_arg1)) := by
  have hT' : m' (((0 : Dev Cert.ReferenceIdeal.nD).tc : Thread Cert.ReferenceIdeal.nD Cert.ReferenceIdeal.τ).loc Cert.ReferenceIdeal.main_arg1) = tbl σ :=
    (hm 0).2.symm.trans (hT 0)
  refine ⟨_, ?_, (θ_run Cert.ReferenceIdeal.defs _ _).mono (fun r h => h 0) (ref_run m' ρ')⟩
  refine (θ_run Cert.KernelIdeal.defs _ _).mono (fun r h c => ⟨(h.1 c).2.2.trans ?_, (h.1 c).1, (h.1 c).2.1⟩) (run_main σ m ρ hT)
  rw [hT', refOut_block]
  exact (hm (σ.symm c)).1

end Cert.Shift

end
-- ==== Proof.lean ====
/-
  The claims, assembled. The kernel's frames and the agreement with the reference are one lemma each over any permutation
  (`Cert.Shift.frame_bits`, `frame_any`, `agree`), taken at the seven rolls of the ring; the reference's frames need nothing
  of its memory (`ref_frame`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import Idealize.ShloMosaic.Adequacy
public import Idealize.ShloMosaic.Init

@[expose] public section

noncomputable section

namespace Cert.Proof

open Idealize.ShloMosaic Idealize.SL.Sem Cert.Kernel Cert.Shift

/-- A word spreads over an array of eight: the one side condition of a precondition. -/
theorem spreads : (⟨0, ![]⟩ : Shape).BroadcastsInDim ⟨1, ![8]⟩ (![] : Fin 0 → Fin 1) := by decide

theorem claim : Cert.Claim :=
  ⟨Cert.Kernel.Gen.facts, Cert.KernelIdeal.Gen.facts, Cert.ReferenceIdeal.Gen.facts,
    ⟨spreads⟩, ⟨spreads⟩, ⟨spreads⟩, ⟨spreads⟩, ⟨spreads⟩, ⟨spreads⟩, ⟨spreads⟩,
    ⟨spreads⟩, ⟨spreads⟩, ⟨spreads⟩, ⟨spreads⟩, ⟨spreads⟩, ⟨spreads⟩, ⟨spreads⟩,
    -- the kernel over the machine's floats, for each roll
    fun m ρ h => frame_bits (roll 1) m ρ fun c => pinned 1 (h c),
    fun m ρ h => frame_bits (roll 2) m ρ fun c => pinned 2 (h c),
    fun m ρ h => frame_bits (roll 3) m ρ fun c => pinned 3 (h c),
    fun m ρ h => frame_bits (roll 4) m ρ fun c => pinned 4 (h c),
    fun m ρ h => frame_bits (roll 5) m ρ fun c => pinned 5 (h c),
    fun m ρ h => frame_bits (roll 6) m ρ fun c => pinned 6 (h c),
    fun m ρ h => frame_bits (roll 7) m ρ fun c => pinned 7 (h c),
    -- its idealization, for each roll
    fun m ρ h => frame_any (roll 1) m ρ fun c => pinned 1 (h c),
    fun m ρ h => frame_any (roll 2) m ρ fun c => pinned 2 (h c),
    fun m ρ h => frame_any (roll 3) m ρ fun c => pinned 3 (h c),
    fun m ρ h => frame_any (roll 4) m ρ fun c => pinned 4 (h c),
    fun m ρ h => frame_any (roll 5) m ρ fun c => pinned 5 (h c),
    fun m ρ h => frame_any (roll 6) m ρ fun c => pinned 6 (h c),
    fun m ρ h => frame_any (roll 7) m ρ fun c => pinned 7 (h c),
    -- the reference, with no precondition and with each
    fun m ρ _ => ref_frame m ρ,
    fun m ρ _ => ref_frame m ρ,
    fun m ρ _ => ref_frame m ρ,
    fun m ρ _ => ref_frame m ρ,
    fun m ρ _ => ref_frame m ρ,
    fun m ρ _ => ref_frame m ρ,
    fun m ρ _ => ref_frame m ρ,
    fun m ρ _ => ref_frame m ρ,
    -- the idealization of the kernel keeps every operation
    trivial,
    -- the agreement, for each roll
    fun m ρ m' ρ' h hm => agree (roll 1) m ρ m' ρ' (fun c => pinned 1 (h c)) hm,
    fun m ρ m' ρ' h hm => agree (roll 2) m ρ m' ρ' (fun c => pinned 2 (h c)) hm,
    fun m ρ m' ρ' h hm => agree (roll 3) m ρ m' ρ' (fun c => pinned 3 (h c)) hm,
    fun m ρ m' ρ' h hm => agree (roll 4) m ρ m' ρ' (fun c => pinned 4 (h c)) hm,
    fun m ρ m' ρ' h hm => agree (roll 5) m ρ m' ρ' (fun c => pinned 5 (h c)) hm,
    fun m ρ m' ρ' h hm => agree (roll 6) m ρ m' ρ' (fun c => pinned 6 (h c)) hm,
    fun m ρ m' ρ' h hm => agree (roll 7) m ρ m' ρ' (fun c => pinned 7 (h c)) hm⟩

end Cert.Proof

end
